-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_order_time_finite [hPre_ids_in_order_time_finite : Cert.Pre_ids_in_order_time_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_order_time_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_order_time_finite [hPre_ids_in_order_time_finite : Cert.Pre_ids_in_order_time_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_order_time_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_ids_in_order_time_finite [hKernelIdeal : Cert.KernelIdeal.Facts] [hPre_ids_in_order_time_finite : Cert.Pre_ids_in_order_time_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_order_time_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ids_in_order_time_finite [hReferenceIdeal : Cert.ReferenceIdeal.Facts] [hPre_ids_in_order_time_finite : Cert.Pre_ids_in_order_time_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_order_time_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_ids_in_order_time_finite [hKernelIdeal : Cert.KernelIdeal.Facts] [hReferenceIdeal : Cert.ReferenceIdeal.Facts] [hPre_ids_in_order_time_finite : Cert.Pre_ids_in_order_time_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_order_time_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ids_in_order_time_finite : Cert.Pre_ids_in_order_time_finite.Facts),
    quiescent_Kernel (hKernel := hKernel)
    ∧ quiescent_KernelIdeal (hKernelIdeal := hKernelIdeal)
    ∧ quiescent_KernelIdeal_pre_ids_in_order_time_finite (hKernelIdeal := hKernelIdeal) (hPre_ids_in_order_time_finite := hPre_ids_in_order_time_finite)
    ∧ quiescent_ReferenceIdeal (hReferenceIdeal := hReferenceIdeal)
    ∧ quiescent_ReferenceIdeal_pre_ids_in_order_time_finite (hReferenceIdeal := hReferenceIdeal) (hPre_ids_in_order_time_finite := hPre_ids_in_order_time_finite)
    ∧ preserves_Kernel_KernelIdeal
    ∧ algebraic_KernelIdeal_ReferenceIdeal_pre_ids_in_order_time_finite (hKernelIdeal := hKernelIdeal) (hReferenceIdeal := hReferenceIdeal) (hPre_ids_in_order_time_finite := hPre_ids_in_order_time_finite)
-- ==== Pre_ids_in_order_time_finite.lean ====
abbrev S16384 : Shape := ⟨1, ![16384]⟩
abbrev S16384x256 : Shape := ⟨2, ![16384, 256]⟩
abbrev S100000x128 : Shape := ⟨2, ![100000, 128]⟩
abbrev S100000 : Shape := ⟨1, ![100000]⟩
abbrev S384x256 : Shape := ⟨2, ![384, 256]⟩
abbrev S384x128 : Shape := ⟨2, ![384, 128]⟩
abbrev S384 : Shape := ⟨1, ![384]⟩
abbrev S1 : Shape := ⟨1, ![1]⟩
abbrev S_ : Shape := ⟨0, ![]⟩

class Facts : Prop where
  slices_S16384_S1_0 : S16384.Slices ![0] S1
  shapeCasts_S1_S_ : S1.ShapeCasts S_
  bcast_S_S16384 : S_.BroadcastsInDim S16384 (![] : Fin 0 → Fin S16384.rank)

variable [Facts]

def fn {F : FTy → Type} [FloatOps F] (main_arg0 : IVec S16384 32) (main_arg1 : FVec F S16384x256 .f32) (main_arg2 : FVec F S16384 .f32) (main_arg3 : FVec F S100000x128 .f32) (main_arg4 : FVec F S100000 .f32) (main_arg5 : FVec F S384x256 .f32) (main_arg6 : FVec F S384x128 .f32) (main_arg7 : FVec F S384 .f32) (main_arg8 : FVec F S384 .f32) : IVec S16384 1 :=
  let main_v0 : IVec S16384 32 := iotaInDim S16384 32 0
  let main_v1 : IVec S16384 1 := cmpi .eq main_arg0 main_v0
  let main_v2 : FVec F S1 .f32 := (extractStridedSlice S1 ![0] · slices_S16384_S1_0) main_arg2
  let main_v3 : FVec F S_ .f32 := shapeCast S_ main_v2 shapeCasts_S1_S_
  let main_v4 : FVec F S_ .f32 := Host.absf main_v3
  let main_cst : FVec F S_ .f32 := constant S_ .f32 0x7F800000#32
  let main_v5 : IVec S_ 1 := cmpf .olt main_v4 main_cst
  let main_v6 : IVec S16384 1 := broadcastInDim S16384 ![] bcast_S_S16384 main_v5
  let main_v7 : IVec S16384 1 := andi main_v1 main_v6
  main_v7
-- ==== Kernel.lean ====
abbrev S16384 : Shape := ⟨1, ![16384]⟩
abbrev S16384x256 : Shape := ⟨2, ![16384, 256]⟩
abbrev S100000x128 : Shape := ⟨2, ![100000, 128]⟩
abbrev S100000 : Shape := ⟨1, ![100000]⟩
abbrev S384x256 : Shape := ⟨2, ![384, 256]⟩
abbrev S384x128 : Shape := ⟨2, ![384, 128]⟩
abbrev S384 : Shape := ⟨1, ![384]⟩
abbrev S16384x1 : Shape := ⟨2, ![16384, 1]⟩
abbrev S100000x1 : Shape := ⟨2, ![100000, 1]⟩
abbrev S1x384 : Shape := ⟨2, ![1, 384]⟩
abbrev S1 : Shape := ⟨1, ![1]⟩
abbrev S_ : Shape := ⟨0, ![]⟩
abbrev S2x2048x256 : Shape := ⟨3, ![2, 2048, 256]⟩
abbrev S2 : Shape := ⟨1, ![2]⟩
abbrev S2x2048x128 : Shape := ⟨3, ![2, 2048, 128]⟩
abbrev S1x2048x256 : Shape := ⟨3, ![1, 2048, 256]⟩
abbrev S2048x256 : Shape := ⟨2, ![2048, 256]⟩
abbrev S1x2048x128 : Shape := ⟨3, ![1, 2048, 128]⟩
abbrev S2048x128 : Shape := ⟨2, ![2048, 128]⟩
abbrev S16384x128 : Shape := ⟨2, ![16384, 128]⟩
abbrev S2048x384 : Shape := ⟨2, ![2048, 384]⟩

abbrev nBuf : Space → Nat
  | .hbm => 29
  | .vmem => 8
  | .smem => 0
  | _ => 0

abbrev bufTy : (tb : Table) → Fin (tcTables nBuf tb) → BufTy
  | .hbm, ⟨0, _⟩ => ⟨S16384, .i32⟩
  | .hbm, ⟨1, _⟩ => ⟨S16384x256, .f32⟩
  | .hbm, ⟨2, _⟩ => ⟨S16384, .f32⟩
  | .hbm, ⟨3, _⟩ => ⟨S100000x128, .f32⟩
  | .hbm, ⟨4, _⟩ => ⟨S100000, .f32⟩
  | .hbm, ⟨5, _⟩ => ⟨S384x256, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S16384x1, .f32⟩
  | .hbm, ⟨10, _⟩ => ⟨S100000x1, .f32⟩
  | .hbm, ⟨11, _⟩ => ⟨S1x384, .f32⟩
  | .hbm, ⟨12, _⟩ => ⟨S1x384, .f32⟩
  | .hbm, ⟨13, _⟩ => ⟨S16384x256, .bf16⟩
  | .hbm, ⟨14, _⟩ => ⟨S384x256, .bf16⟩
  | .hbm, ⟨15, _⟩ => ⟨S384x128, .bf16⟩
  | .hbm, ⟨16, _⟩ => ⟨S1, .f32⟩
  | .hbm, ⟨17, _⟩ => ⟨S_, .f32⟩
  | .hbm, ⟨18, _⟩ => ⟨S100000x128, .f32⟩
  | .hbm, ⟨19, _⟩ => ⟨S100000x128, .f32⟩
  | .hbm, ⟨20, _⟩ => ⟨S100000x128, .f32⟩
  | .hbm, ⟨21, _⟩ => ⟨S100000x128, .f32⟩
  | .hbm, ⟨22, _⟩ => ⟨S100000x1, .f32⟩
  | .hbm, ⟨23, _⟩ => ⟨S100000x1, .f32⟩
  | .hbm, ⟨24, _⟩ => ⟨S100000x1, .f32⟩
  | .hbm, ⟨25, _⟩ => ⟨S100000x1, .f32⟩
  | .hbm, ⟨26, _⟩ => ⟨S100000x128, .f32⟩
  | .hbm, ⟨27, _⟩ => ⟨S100000x1, .f32⟩
  | .hbm, ⟨28, _⟩ => ⟨S100000, .f32⟩
  | .local _ .vmem, ⟨0, _⟩ => ⟨S384x256, .bf16⟩
  | .local _ .vmem, ⟨1, _⟩ => ⟨S384x128, .bf16⟩
  | .local _ .vmem, ⟨2, _⟩ => ⟨S1x384, .f32⟩
  | .local _ .vmem, ⟨3, _⟩ => ⟨S1x384, .f32⟩
  | .local _ .vmem, ⟨4, _⟩ => ⟨S16384x1, .f32⟩
  | .local _ .vmem, ⟨5, _⟩ => ⟨S2x2048x256, .bf16⟩
  | .local _ .vmem, ⟨6, _⟩ => ⟨S2x2048x128, .f32⟩
  | .local _ .vmem, ⟨7, _⟩ => ⟨S2x2048x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v0_0 : Ref sig .tc := ⟨.hbm, 26, rfl⟩
abbrev main_call0_v17_1 : Ref sig .tc := ⟨.hbm, 27, rfl⟩
abbrev main_v0_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scoped0 : Ref sig .tc := ⟨.vmem, 5, rfl⟩
abbrev cc0_scoped2 : Ref sig .tc := ⟨.vmem, 6, rfl⟩
abbrev cc0_scoped4 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 : Fin 1 → Nat :=
  let c0_i32_24_r0 : BitVec 32 := 0#32
  let c2_i32_r0 : BitVec 32 := 2#32
  let v26_r0 : BitVec 32 := Scalar.remui c0_i32_24_r0 c2_i32_r0
  ![v26_r0.toNat]
def k0_off2 : Fin 3 → Nat :=
  let c0_i32_24_r0 : BitVec 32 := 0#32
  let c2_i32_r0 : BitVec 32 := 2#32
  let v26_r0 : BitVec 32 := Scalar.remui c0_i32_24_r0 c2_i32_r0
  let c0_i32_25_r0 : BitVec 32 := 0#32
  let c0_i32_26_r0 : BitVec 32 := 0#32
  ![v26_r0.toNat, 0, 0]
def k0_off3 : Fin 3 → Nat :=
  let c0_i32_31_r0 : BitVec 32 := 0#32
  let c2_i32_32_r0 : BitVec 32 := 2#32
  let v33_r0 : BitVec 32 := Scalar.remui c0_i32_31_r0 c2_i32_32_r0
  let c0_i32_33_r0 : BitVec 32 := 0#32
  let c0_i32_34_r0 : BitVec 32 := 0#32
  ![v33_r0.toNat, 0, 0]
@[reducible] def k0_t1_loop : Scf.Loop 32 :=
  let c0_i32_46_r0 : BitVec 32 := 0#32
  let c8_i32_47_r0 : BitVec 32 := 8#32
  let v41_r0 : BitVec 32 := Scalar.addi c0_i32_46_r0 c8_i32_47_r0
  let c1_i32_48_r0 : BitVec 32 := 1#32
  ⟨c0_i32_46_r0, v41_r0, c1_i32_48_r0⟩
def k0_off4 (arg12_r0 : BitVec 32) : Fin 1 → Nat :=
  let c2_i32_147_r0 : BitVec 32 := 2#32
  let v218_r0 : BitVec 32 := Scalar.remui arg12_r0 c2_i32_147_r0
  ![v218_r0.toNat]
def k0_cond1 (k0_t1 : Fin k0_t1_loop.trips) (arg18_r0 : BitVec 32) : BitVec 1 :=
  let c0_i32_78_r0 : BitVec 32 := 0#32
  let v73_r0 : BitVec 32 := Scalar.addi arg18_r0 c0_i32_78_r0
  let true_85_r0 : BitVec 1 := 1#1
  let c1_i32_84_r0 : BitVec 32 := 1#32
  let v79_r0 : BitVec 32 := Scalar.addi arg18_r0 c1_i32_84_r0
  let v80_r0 : BitVec 32 := Scalar.select true_85_r0 v79_r0 arg18_r0
  let c8_i32_86_r0 : BitVec 32 := 8#32
  let v81_r0 : BitVec 1 := Scalar.cmpi .eq v80_r0 c8_i32_86_r0
  let c0_i32_87_r0 : BitVec 32 := 0#32
  let v82_r0 : BitVec 32 := Scalar.select v81_r0 c0_i32_87_r0 v80_r0
  let c0_i32_88_r0 : BitVec 32 := 0#32
  let v83_r0 : BitVec 32 := Scalar.addi v82_r0 c0_i32_88_r0
  let v89_r0 : BitVec 1 := Scalar.cmpi .ne v73_r0 v83_r0
  let c0_i32_46_r0 : BitVec 32 := 0#32
  let c1_i32_48_r0 : BitVec 32 := 1#32
  let arg11_r0 : BitVec 32 := Scf.iv c0_i32_46_r0 c1_i32_48_r0 k0_t1
  let c7_i32_94_r0 : BitVec 32 := 7#32
  let v90_r0 : BitVec 1 := Scalar.cmpi .sge arg11_r0 c7_i32_94_r0
  let true_95_r0 : BitVec 1 := 1#1
  let v91_r0 : BitVec 1 := Scalar.xori v90_r0 true_95_r0
  let v92_r0 : BitVec 1 := Scalar.andi v89_r0 v91_r0
  let true_96_r0 : BitVec 1 := 1#1
  let v93_r0 : BitVec 1 := Scalar.andi v92_r0 true_96_r0
  let v94_r0 : BitVec 32 := Scalar.extui v93_r0
  let c0_i32_97_r0 : BitVec 32 := 0#32
  let v95_r0 : BitVec 1 := Scalar.cmpi .ne v94_r0 c0_i32_97_r0
  v95_r0

def k0_off5 (arg12_r0 : BitVec 32) : Fin 3 → Nat :=
  let c2_i32_147_r0 : BitVec 32 := 2#32
  let v218_r0 : BitVec 32 := Scalar.remui arg12_r0 c2_i32_147_r0
  let c0_i32_149_r0 : BitVec 32 := 0#32
  let c0_i32_150_r0 : BitVec 32 := 0#32
  ![v218_r0.toNat, 0, 0]
def k0_off6 (arg18_r0 : BitVec 32) : Fin 2 → Nat :=
  let c2048_i32_148_r0 : BitVec 32 := 2048#32
  let true_85_r0 : BitVec 1 := 1#1
  let c1_i32_84_r0 : BitVec 32 := 1#32
  let v79_r0 : BitVec 32 := Scalar.addi arg18_r0 c1_i32_84_r0
  let v80_r0 : BitVec 32 := Scalar.select true_85_r0 v79_r0 arg18_r0
  let c8_i32_86_r0 : BitVec 32 := 8#32
  let v81_r0 : BitVec 1 := Scalar.cmpi .eq v80_r0 c8_i32_86_r0
  let c0_i32_87_r0 : BitVec 32 := 0#32
  let v82_r0 : BitVec 32 := Scalar.select v81_r0 c0_i32_87_r0 v80_r0
  let c0_i32_88_r0 : BitVec 32 := 0#32
  let v83_r0 : BitVec 32 := Scalar.addi v82_r0 c0_i32_88_r0
  let v219_r0 : BitVec 32 := Scalar.muli c2048_i32_148_r0 v83_r0
  let c0_i32_151_r0 : BitVec 32 := 0#32
  ![v219_r0.toNat, 0]
def k0_off7 (arg14_r0 : BitVec 32) : Fin 1 → Nat :=
  let c2_i32_147_r0 : BitVec 32 := 2#32
  let v218_r0 : BitVec 32 := Scalar.remui arg14_r0 c2_i32_147_r0
  ![v218_r0.toNat]
def k0_cond2 (k0_t1 : Fin k0_t1_loop.trips) (arg18_r0 : BitVec 32) : BitVec 1 :=
  let c0_i32_78_r0 : BitVec 32 := 0#32
  let v73_r0 : BitVec 32 := Scalar.addi arg18_r0 c0_i32_78_r0
  let true_85_r0 : BitVec 1 := 1#1
  let c1_i32_84_r0 : BitVec 32 := 1#32
  let v79_r0 : BitVec 32 := Scalar.addi arg18_r0 c1_i32_84_r0
  let v80_r0 : BitVec 32 := Scalar.select true_85_r0 v79_r0 arg18_r0
  let c8_i32_86_r0 : BitVec 32 := 8#32
  let v81_r0 : BitVec 1 := Scalar.cmpi .eq v80_r0 c8_i32_86_r0
  let c0_i32_87_r0 : BitVec 32 := 0#32
  let v82_r0 : BitVec 32 := Scalar.select v81_r0 c0_i32_87_r0 v80_r0
  let c0_i32_88_r0 : BitVec 32 := 0#32
  let v83_r0 : BitVec 32 := Scalar.addi v82_r0 c0_i32_88_r0
  let v99_r0 : BitVec 1 := Scalar.cmpi .ne v73_r0 v83_r0
  let c0_i32_46_r0 : BitVec 32 := 0#32
  let c1_i32_48_r0 : BitVec 32 := 1#32
  let arg11_r0 : BitVec 32 := Scf.iv c0_i32_46_r0 c1_i32_48_r0 k0_t1
  let c7_i32_100_r0 : BitVec 32 := 7#32
  let v100_r0 : BitVec 1 := Scalar.cmpi .sge arg11_r0 c7_i32_100_r0
  let true_101_r0 : BitVec 1 := 1#1
  let v101_r0 : BitVec 1 := Scalar.xori v100_r0 true_101_r0
  let v102_r0 : BitVec 1 := Scalar.andi v99_r0 v101_r0
  let true_102_r0 : BitVec 1 := 1#1
  let v103_r0 : BitVec 1 := Scalar.andi v102_r0 true_102_r0
  let v104_r0 : BitVec 32 := Scalar.extui v103_r0
  let c0_i32_103_r0 : BitVec 32 := 0#32
  let v105_r0 : BitVec 1 := Scalar.cmpi .ne v104_r0 c0_i32_103_r0
  v105_r0

def k0_off8 (arg14_r0 : BitVec 32) : Fin 3 → Nat :=
  let c2_i32_147_r0 : BitVec 32 := 2#32
  let v218_r0 : BitVec 32 := Scalar.remui arg14_r0 c2_i32_147_r0
  let c0_i32_149_r0 : BitVec 32 := 0#32
  let c0_i32_150_r0 : BitVec 32 := 0#32
  ![v218_r0.toNat, 0, 0]
def k0_off9 (arg18_r0 : BitVec 32) : Fin 2 → Nat :=
  let c2048_i32_148_r0 : BitVec 32 := 2048#32
  let true_85_r0 : BitVec 1 := 1#1
  let c1_i32_84_r0 : BitVec 32 := 1#32
  let v79_r0 : BitVec 32 := Scalar.addi arg18_r0 c1_i32_84_r0
  let v80_r0 : BitVec 32 := Scalar.select true_85_r0 v79_r0 arg18_r0
  let c8_i32_86_r0 : BitVec 32 := 8#32
  let v81_r0 : BitVec 1 := Scalar.cmpi .eq v80_r0 c8_i32_86_r0
  let c0_i32_87_r0 : BitVec 32 := 0#32
  let v82_r0 : BitVec 32 := Scalar.select v81_r0 c0_i32_87_r0 v80_r0
  let c0_i32_88_r0 : BitVec 32 := 0#32
  let v83_r0 : BitVec 32 := Scalar.addi v82_r0 c0_i32_88_r0
  let v219_r0 : BitVec 32 := Scalar.muli c2048_i32_148_r0 v83_r0
  let c0_i32_153_r0 : BitVec 32 := 0#32
  ![v219_r0.toNat, 0]
def k0_off10 (arg13_r0 : BitVec 32) : Fin 1 → Nat :=
  let c2_i32_148_r0 : BitVec 32 := 2#32
  let v219_r0 : BitVec 32 := Scalar.remui arg13_r0 c2_i32_148_r0
  ![v219_r0.toNat]
def k0_cond3 (k0_t1 : Fin k0_t1_loop.trips) (arg18_r0 : BitVec 32) : BitVec 1 :=
  let c0_i32_78_r0 : BitVec 32 := 0#32
  let v73_r0 : BitVec 32 := Scalar.addi arg18_r0 c0_i32_78_r0
  let true_80_r0 : BitVec 1 := 1#1
  let c1_i32_79_r0 : BitVec 32 := 1#32
  let v74_r0 : BitVec 32 := Scalar.subi arg18_r0 c1_i32_79_r0
  let v75_r0 : BitVec 32 := Scalar.select true_80_r0 v74_r0 arg18_r0
  let c_m1_i32_81_r0 : BitVec 32 := 4294967295#32
  let v76_r0 : BitVec 1 := Scalar.cmpi .eq v75_r0 c_m1_i32_81_r0
  let c7_i32_82_r0 : BitVec 32 := 7#32
  let v77_r0 : BitVec 32 := Scalar.select v76_r0 c7_i32_82_r0 v75_r0
  let c0_i32_83_r0 : BitVec 32 := 0#32
  let v78_r0 : BitVec 32 := Scalar.addi v77_r0 c0_i32_83_r0
  let v113_r0 : BitVec 1 := Scalar.cmpi .ne v73_r0 v78_r0
  let c0_i32_46_r0 : BitVec 32 := 0#32
  let c1_i32_48_r0 : BitVec 32 := 1#32
  let arg11_r0 : BitVec 32 := Scf.iv c0_i32_46_r0 c1_i32_48_r0 k0_t1
  let c0_i32_76_r0 : BitVec 32 := 0#32
  let v71_r0 : BitVec 1 := Scalar.cmpi .eq arg11_r0 c0_i32_76_r0
  let v114_r0 : BitVec 1 := Scalar.ori v113_r0 v71_r0
  let c0_i32_108_r0 : BitVec 32 := 0#32
  let v115_r0 : BitVec 1 := Scalar.cmpi .sge arg11_r0 c0_i32_108_r0
  let v116_r0 : BitVec 1 := Scalar.andi v114_r0 v115_r0
  let v117_r0 : BitVec 32 := Scalar.extui v116_r0
  let c0_i32_109_r0 : BitVec 32 := 0#32
  let v118_r0 : BitVec 1 := Scalar.cmpi .ne v117_r0 c0_i32_109_r0
  v118_r0

def k0_off11 (arg13_r0 : BitVec 32) : Fin 3 → Nat :=
  let c2_i32_148_r0 : BitVec 32 := 2#32
  let v219_r0 : BitVec 32 := Scalar.remui arg13_r0 c2_i32_148_r0
  let c0_i32_149_r0 : BitVec 32 := 0#32
  let c0_i32_150_r0 : BitVec 32 := 0#32
  ![v219_r0.toNat, 0, 0]
def k0_off12 (arg18_r0 : BitVec 32) : Fin 2 → Nat :=
  let c2048_i32_147_r0 : BitVec 32 := 2048#32
  let c0_i32_78_r0 : BitVec 32 := 0#32
  let v73_r0 : BitVec 32 := Scalar.addi arg18_r0 c0_i32_78_r0
  let v218_r0 : BitVec 32 := Scalar.muli c2048_i32_147_r0 v73_r0
  let c0_i32_151_r0 : BitVec 32 := 0#32
  ![v218_r0.toNat, 0]
def k0_off13 (arg15_r0 : BitVec 32) : Fin 1 → Nat :=
  let c2_i32_148_r0 : BitVec 32 := 2#32
  let v219_r0 : BitVec 32 := Scalar.remui arg15_r0 c2_i32_148_r0
  ![v219_r0.toNat]
def k0_cond4 (k0_t1 : Fin k0_t1_loop.trips) (arg18_r0 : BitVec 32) : BitVec 1 :=
  let c0_i32_78_r0 : BitVec 32 := 0#32
  let v73_r0 : BitVec 32 := Scalar.addi arg18_r0 c0_i32_78_r0
  let true_80_r0 : BitVec 1 := 1#1
  let c1_i32_79_r0 : BitVec 32 := 1#32
  let v74_r0 : BitVec 32 := Scalar.subi arg18_r0 c1_i32_79_r0
  let v75_r0 : BitVec 32 := Scalar.select true_80_r0 v74_r0 arg18_r0
  let c_m1_i32_81_r0 : BitVec 32 := 4294967295#32
  let v76_r0 : BitVec 1 := Scalar.cmpi .eq v75_r0 c_m1_i32_81_r0
  let c7_i32_82_r0 : BitVec 32 := 7#32
  let v77_r0 : BitVec 32 := Scalar.select v76_r0 c7_i32_82_r0 v75_r0
  let c0_i32_83_r0 : BitVec 32 := 0#32
  let v78_r0 : BitVec 32 := Scalar.addi v77_r0 c0_i32_83_r0
  let v119_r0 : BitVec 1 := Scalar.cmpi .ne v73_r0 v78_r0
  let c0_i32_46_r0 : BitVec 32 := 0#32
  let c1_i32_48_r0 : BitVec 32 := 1#32
  let arg11_r0 : BitVec 32 := Scf.iv c0_i32_46_r0 c1_i32_48_r0 k0_t1
  let c0_i32_76_r0 : BitVec 32 := 0#32
  let v71_r0 : BitVec 1 := Scalar.cmpi .eq arg11_r0 c0_i32_76_r0
  let v120_r0 : BitVec 1 := Scalar.ori v119_r0 v71_r0
  let c0_i32_110_r0 : BitVec 32 := 0#32
  let v121_r0 : BitVec 1 := Scalar.cmpi .sge arg11_r0 c0_i32_110_r0
  let v122_r0 : BitVec 1 := Scalar.andi v120_r0 v121_r0
  let v123_r0 : BitVec 32 := Scalar.extui v122_r0
  let c0_i32_111_r0 : BitVec 32 := 0#32
  let v124_r0 : BitVec 1 := Scalar.cmpi .ne v123_r0 c0_i32_111_r0
  v124_r0

def k0_off14 (arg15_r0 : BitVec 32) : Fin 3 → Nat :=
  let c2_i32_148_r0 : BitVec 32 := 2#32
  let v219_r0 : BitVec 32 := Scalar.remui arg15_r0 c2_i32_148_r0
  let c0_i32_149_r0 : BitVec 32 := 0#32
  let c0_i32_150_r0 : BitVec 32 := 0#32
  ![v219_r0.toNat, 0, 0]
def k0_off15 (arg18_r0 : BitVec 32) : Fin 2 → Nat :=
  let c2048_i32_147_r0 : BitVec 32 := 2048#32
  let c0_i32_78_r0 : BitVec 32 := 0#32
  let v73_r0 : BitVec 32 := Scalar.addi arg18_r0 c0_i32_78_r0
  let v218_r0 : BitVec 32 := Scalar.muli c2048_i32_147_r0 v73_r0
  let c0_i32_153_r0 : BitVec 32 := 0#32
  ![v218_r0.toNat, 0]
def k0_off16 (arg13_r0 : BitVec 32) : Fin 3 → Nat :=
  let c2_i32_114_r0 : BitVec 32 := 2#32
  let v131_r0 : BitVec 32 := Scalar.remui arg13_r0 c2_i32_114_r0
  let v134_r0 : Index := Scalar.indexCast v131_r0
  let c0_117_r0 : Index := 0#32
  let c0_118_r0 : Index := 0#32
  ![v134_r0.toNat, 0, 0]

def k0_chk2 (arg13_r0 : BitVec 32) : Prop :=
  (∀ a, (k0_off16 arg13_r0) a + S1x2048x256.size a ≤ S2x2048x256.size a)
theorem k0_off16_inb : ∀ (arg13_r0 : BitVec 32) (k0_hw2 : k0_chk2 arg13_r0), ∀ a, (k0_off16 arg13_r0) a + S1x2048x256.size a ≤ S2x2048x256.size a := fun arg13_r0 k0_hw2 => k0_hw2

def k0_off17 (arg15_r0 : BitVec 32) : Fin 3 → Nat :=
  let c2_i32_115_r0 : BitVec 32 := 2#32
  let v132_r0 : BitVec 32 := Scalar.remui arg15_r0 c2_i32_115_r0
  let v137_r0 : Index := Scalar.indexCast v132_r0
  let c0_119_r0 : Index := 0#32
  let c0_120_r0 : Index := 0#32
  ![v137_r0.toNat, 0, 0]

def k0_chk3 (arg15_r0 : BitVec 32) : Prop :=
  (∀ a, (k0_off17 arg15_r0) a + S1x2048x128.size a ≤ S2x2048x128.size a)
theorem k0_off17_inb : ∀ (arg15_r0 : BitVec 32) (k0_hw3 : k0_chk3 arg15_r0), ∀ a, (k0_off17 arg15_r0) a + S1x2048x128.size a ≤ S2x2048x128.size a := fun arg15_r0 k0_hw3 => k0_hw3

def k0_off18 (arg16_r0 : BitVec 32) : Fin 3 → Nat :=
  let c2_i32_116_r0 : BitVec 32 := 2#32
  let v133_r0 : BitVec 32 := Scalar.remui arg16_r0 c2_i32_116_r0
  let v165_r0 : Index := Scalar.indexCast v133_r0
  let c0_123_r0 : Index := 0#32
  let c0_124_r0 : Index := 0#32
  ![v165_r0.toNat, 0, 0]

def k0_chk4 (arg16_r0 : BitVec 32) : Prop :=
  (∀ a, (k0_off18 arg16_r0) a + S1x2048x128.size a ≤ S2x2048x128.size a)
theorem k0_off18_inb : ∀ (arg16_r0 : BitVec 32) (k0_hw4 : k0_chk4 arg16_r0), ∀ a, (k0_off18 arg16_r0) a + S1x2048x128.size a ≤ S2x2048x128.size a := fun arg16_r0 k0_hw4 => k0_hw4

def k0_off19 (arg16_r0 : BitVec 32) : Fin 1 → Nat :=
  let c2_i32_147_r0 : BitVec 32 := 2#32
  let v218_r0 : BitVec 32 := Scalar.remui arg16_r0 c2_i32_147_r0
  ![v218_r0.toNat]
def k0_cond8 (k0_t1 : Fin k0_t1_loop.trips) (arg18_r0 : BitVec 32) : BitVec 1 :=
  let c0_i32_78_r0 : BitVec 32 := 0#32
  let v73_r0 : BitVec 32 := Scalar.addi arg18_r0 c0_i32_78_r0
  let true_85_r0 : BitVec 1 := 1#1
  let c1_i32_84_r0 : BitVec 32 := 1#32
  let v79_r0 : BitVec 32 := Scalar.addi arg18_r0 c1_i32_84_r0
  let v80_r0 : BitVec 32 := Scalar.select true_85_r0 v79_r0 arg18_r0
  let c8_i32_86_r0 : BitVec 32 := 8#32
  let v81_r0 : BitVec 1 := Scalar.cmpi .eq v80_r0 c8_i32_86_r0
  let c0_i32_87_r0 : BitVec 32 := 0#32
  let v82_r0 : BitVec 32 := Scalar.select v81_r0 c0_i32_87_r0 v80_r0
  let c0_i32_88_r0 : BitVec 32 := 0#32
  let v83_r0 : BitVec 32 := Scalar.addi v82_r0 c0_i32_88_r0
  let v179_r0 : BitVec 1 := Scalar.cmpi .ne v73_r0 v83_r0
  let c0_i32_46_r0 : BitVec 32 := 0#32
  let c1_i32_48_r0 : BitVec 32 := 1#32
  let arg11_r0 : BitVec 32 := Scf.iv c0_i32_46_r0 c1_i32_48_r0 k0_t1
  let c7_i32_77_r0 : BitVec 32 := 7#32
  let v72_r0 : BitVec 1 := Scalar.cmpi .eq arg11_r0 c7_i32_77_r0
  let v180_r0 : BitVec 1 := Scalar.ori v179_r0 v72_r0
  let v181_r0 : BitVec 32 := Scalar.extui v180_r0
  let c0_i32_128_r0 : BitVec 32 := 0#32
  let v182_r0 : BitVec 1 := Scalar.cmpi .ne v181_r0 c0_i32_128_r0
  v182_r0

def k0_off20 (arg18_r0 : BitVec 32) : Fin 2 → Nat :=
  let c2048_i32_148_r0 : BitVec 32 := 2048#32
  let c0_i32_78_r0 : BitVec 32 := 0#32
  let v73_r0 : BitVec 32 := Scalar.addi arg18_r0 c0_i32_78_r0
  let v219_r0 : BitVec 32 := Scalar.muli c2048_i32_148_r0 v73_r0
  let c0_i32_151_r0 : BitVec 32 := 0#32
  ![v219_r0.toNat, 0]
def k0_off21 (arg16_r0 : BitVec 32) : Fin 3 → Nat :=
  let c2_i32_147_r0 : BitVec 32 := 2#32
  let v218_r0 : BitVec 32 := Scalar.remui arg16_r0 c2_i32_147_r0
  let c0_i32_152_r0 : BitVec 32 := 0#32
  let c0_i32_153_r0 : BitVec 32 := 0#32
  ![v218_r0.toNat, 0, 0]
def k0_off22 (arg17_r0 : BitVec 32) : Fin 1 → Nat :=
  let c2_i32_147_r0 : BitVec 32 := 2#32
  let v218_r0 : BitVec 32 := Scalar.remui arg17_r0 c2_i32_147_r0
  ![v218_r0.toNat]
def k0_cond11 (k0_t1 : Fin k0_t1_loop.trips) (arg18_r0 : BitVec 32) : BitVec 1 :=
  let c0_i32_78_r0 : BitVec 32 := 0#32
  let v73_r0 : BitVec 32 := Scalar.addi arg18_r0 c0_i32_78_r0
  let true_80_r0 : BitVec 1 := 1#1
  let c1_i32_79_r0 : BitVec 32 := 1#32
  let v74_r0 : BitVec 32 := Scalar.subi arg18_r0 c1_i32_79_r0
  let v75_r0 : BitVec 32 := Scalar.select true_80_r0 v74_r0 arg18_r0
  let c_m1_i32_81_r0 : BitVec 32 := 4294967295#32
  let v76_r0 : BitVec 1 := Scalar.cmpi .eq v75_r0 c_m1_i32_81_r0
  let c7_i32_82_r0 : BitVec 32 := 7#32
  let v77_r0 : BitVec 32 := Scalar.select v76_r0 c7_i32_82_r0 v75_r0
  let c0_i32_83_r0 : BitVec 32 := 0#32
  let v78_r0 : BitVec 32 := Scalar.addi v77_r0 c0_i32_83_r0
  let v198_r0 : BitVec 1 := Scalar.cmpi .ne v73_r0 v78_r0
  let c0_i32_46_r0 : BitVec 32 := 0#32
  let c1_i32_48_r0 : BitVec 32 := 1#32
  let arg11_r0 : BitVec 32 := Scf.iv c0_i32_46_r0 c1_i32_48_r0 k0_t1
  let c0_i32_76_r0 : BitVec 32 := 0#32
  let v71_r0 : BitVec 1 := Scalar.cmpi .eq arg11_r0 c0_i32_76_r0
  let true_137_r0 : BitVec 1 := 1#1
  let v199_r0 : BitVec 1 := Scalar.xori v71_r0 true_137_r0
  let v200_r0 : BitVec 1 := Scalar.andi v198_r0 v199_r0
  let v201_r0 : BitVec 32 := Scalar.extui v200_r0
  let c0_i32_138_r0 : BitVec 32 := 0#32
  let v202_r0 : BitVec 1 := Scalar.cmpi .ne v201_r0 c0_i32_138_r0
  v202_r0

def k0_off23 (arg18_r0 : BitVec 32) : Fin 2 → Nat :=
  let c2048_i32_148_r0 : BitVec 32 := 2048#32
  let true_80_r0 : BitVec 1 := 1#1
  let c1_i32_79_r0 : BitVec 32 := 1#32
  let v74_r0 : BitVec 32 := Scalar.subi arg18_r0 c1_i32_79_r0
  let v75_r0 : BitVec 32 := Scalar.select true_80_r0 v74_r0 arg18_r0
  let c_m1_i32_81_r0 : BitVec 32 := 4294967295#32
  let v76_r0 : BitVec 1 := Scalar.cmpi .eq v75_r0 c_m1_i32_81_r0
  let c7_i32_82_r0 : BitVec 32 := 7#32
  let v77_r0 : BitVec 32 := Scalar.select v76_r0 c7_i32_82_r0 v75_r0
  let c0_i32_83_r0 : BitVec 32 := 0#32
  let v78_r0 : BitVec 32 := Scalar.addi v77_r0 c0_i32_83_r0
  let v219_r0 : BitVec 32 := Scalar.muli c2048_i32_148_r0 v78_r0
  let c0_i32_151_r0 : BitVec 32 := 0#32
  ![v219_r0.toNat, 0]
def k0_off24 (arg17_r0 : BitVec 32) : Fin 3 → Nat :=
  let c2_i32_147_r0 : BitVec 32 := 2#32
  let v218_r0 : BitVec 32 := Scalar.remui arg17_r0 c2_i32_147_r0
  let c0_i32_152_r0 : BitVec 32 := 0#32
  let c0_i32_153_r0 : BitVec 32 := 0#32
  ![v218_r0.toNat, 0, 0]

def k0_chk1 (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) : Prop :=
  (∀ (k0_h1 : k0_cond1 k0_t1 arg18_r0 = 1#1), ∀ a, (k0_off4 arg12_r0) a + S1.size a ≤ S2.size a) ∧
  (∀ (k0_h1 : k0_cond1 k0_t1 arg18_r0 = 1#1), ∀ a, (k0_off5 arg12_r0) a + S1x2048x256.size a ≤ S2x2048x256.size a) ∧
  (∀ (k0_h1 : k0_cond1 k0_t1 arg18_r0 = 1#1), ∀ a, (k0_off6 arg18_r0) a + S2048x256.size a ≤ S16384x256.size a) ∧
  (∀ (k0_h1 : k0_cond1 k0_t1 arg18_r0 = 1#1), ∀ (hinb : ∀ a, (k0_off6 arg18_r0) a + S2048x256.size a ≤ S16384x256.size a), (Rect.unit (s := S16384x256) (k0_off6 arg18_r0) S2048x256.size hinb).WholeWords (EltTy.packing .bf16)) ∧
  (∀ (k0_h1 : k0_cond1 k0_t1 arg18_r0 = 1#1), ∀ (hinb : ∀ a, (k0_off5 arg12_r0) a + S1x2048x256.size a ≤ S2x2048x256.size a), (Rect.unit (s := S2x2048x256) (k0_off5 arg12_r0) S1x2048x256.size hinb).WholeWords (EltTy.packing .bf16)) ∧
  (∀ (k0_h2 : k0_cond2 k0_t1 arg18_r0 = 1#1), ∀ a, (k0_off7 arg14_r0) a + S1.size a ≤ S2.size a) ∧
  (∀ (k0_h2 : k0_cond2 k0_t1 arg18_r0 = 1#1), ∀ a, (k0_off8 arg14_r0) a + S1x2048x128.size a ≤ S2x2048x128.size a) ∧
  (∀ (k0_h2 : k0_cond2 k0_t1 arg18_r0 = 1#1), ∀ a, (k0_off9 arg18_r0) a + S2048x128.size a ≤ S16384x128.size a) ∧
  (∀ (k0_h3 : k0_cond3 k0_t1 arg18_r0 = 1#1), ∀ a, (k0_off10 arg13_r0) a + S1.size a ≤ S2.size a) ∧
  (∀ (k0_h3 : k0_cond3 k0_t1 arg18_r0 = 1#1), ∀ a, (k0_off11 arg13_r0) a + S1x2048x256.size a ≤ S2x2048x256.size a) ∧
  (∀ (k0_h3 : k0_cond3 k0_t1 arg18_r0 = 1#1), ∀ a, (k0_off12 arg18_r0) a + S2048x256.size a ≤ S16384x256.size a) ∧
  (∀ (k0_h3 : k0_cond3 k0_t1 arg18_r0 = 1#1), ∀ (hinb : ∀ a, (k0_off12 arg18_r0) a + S2048x256.size a ≤ S16384x256.size a), (Rect.unit (s := S16384x256) (k0_off12 arg18_r0) S2048x256.size hinb).WholeWords (EltTy.packing .bf16)) ∧
  (∀ (k0_h3 : k0_cond3 k0_t1 arg18_r0 = 1#1), ∀ (hinb : ∀ a, (k0_off11 arg13_r0) a + S1x2048x256.size a ≤ S2x2048x256.size a), (Rect.unit (s := S2x2048x256) (k0_off11 arg13_r0) S1x2048x256.size hinb).WholeWords (EltTy.packing .bf16)) ∧
  (∀ (k0_h4 : k0_cond4 k0_t1 arg18_r0 = 1#1), ∀ a, (k0_off13 arg15_r0) a + S1.size a ≤ S2.size a) ∧
  (∀ (k0_h4 : k0_cond4 k0_t1 arg18_r0 = 1#1), ∀ a, (k0_off14 arg15_r0) a + S1x2048x128.size a ≤ S2x2048x128.size a) ∧
  (∀ (k0_h4 : k0_cond4 k0_t1 arg18_r0 = 1#1), ∀ a, (k0_off15 arg18_r0) a + S2048x128.size a ≤ S16384x128.size a) ∧
  (∀ (k0_h8 : k0_cond8 k0_t1 arg18_r0 = 1#1), ∀ a, (k0_off19 arg16_r0) a + S1.size a ≤ S2.size a) ∧
  (∀ (k0_h8 : k0_cond8 k0_t1 arg18_r0 = 1#1), ∀ a, (k0_off20 arg18_r0) a + S2048x128.size a ≤ S16384x128.size a) ∧
  (∀ (k0_h8 : k0_cond8 k0_t1 arg18_r0 = 1#1), ∀ a, (k0_off21 arg16_r0) a + S1x2048x128.size a ≤ S2x2048x128.size a) ∧
  (∀ (k0_h11 : k0_cond11 k0_t1 arg18_r0 = 1#1), ∀ a, (k0_off22 arg17_r0) a + S1.size a ≤ S2.size a) ∧
  (∀ (k0_h11 : k0_cond11 k0_t1 arg18_r0 = 1#1), ∀ a, (k0_off23 arg18_r0) a + S2048x128.size a ≤ S16384x128.size a) ∧
  (∀ (k0_h11 : k0_cond11 k0_t1 arg18_r0 = 1#1), ∀ a, (k0_off24 arg17_r0) a + S1x2048x128.size a ≤ S2x2048x128.size a)
theorem k0_off4_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h1 : k0_cond1 k0_t1 arg18_r0 = 1#1), ∀ a, (k0_off4 arg12_r0) a + S1.size a ≤ S2.size a := fun k0_t1 arg12_r0 arg13_r0 arg14_r0 arg15_r0 arg16_r0 arg17_r0 arg18_r0 k0_hw1 k0_h1 => k0_hw1.1 k0_h1
theorem k0_off5_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h1 : k0_cond1 k0_t1 arg18_r0 = 1#1), ∀ a, (k0_off5 arg12_r0) a + S1x2048x256.size a ≤ S2x2048x256.size a := fun k0_t1 arg12_r0 arg13_r0 arg14_r0 arg15_r0 arg16_r0 arg17_r0 arg18_r0 k0_hw1 k0_h1 => k0_hw1.2.1 k0_h1
theorem k0_off6_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h1 : k0_cond1 k0_t1 arg18_r0 = 1#1), ∀ a, (k0_off6 arg18_r0) a + S2048x256.size a ≤ S16384x256.size a := fun k0_t1 arg12_r0 arg13_r0 arg14_r0 arg15_r0 arg16_r0 arg17_r0 arg18_r0 k0_hw1 k0_h1 => k0_hw1.2.2.1 k0_h1
theorem k0_off6_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h1 : k0_cond1 k0_t1 arg18_r0 = 1#1), (Rect.unit (s := S16384x256) (k0_off6 arg18_r0) S2048x256.size (k0_off6_inb k0_t1 arg12_r0 arg13_r0 arg14_r0 arg15_r0 arg16_r0 arg17_r0 arg18_r0 k0_hw1 k0_h1)).WholeWords (EltTy.packing .bf16) := fun k0_t1 arg12_r0 arg13_r0 arg14_r0 arg15_r0 arg16_r0 arg17_r0 arg18_r0 k0_hw1 k0_h1 => k0_hw1.2.2.2.1 k0_h1 (k0_off6_inb k0_t1 arg12_r0 arg13_r0 arg14_r0 arg15_r0 arg16_r0 arg17_r0 arg18_r0 k0_hw1 k0_h1)
theorem k0_off5_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h1 : k0_cond1 k0_t1 arg18_r0 = 1#1), (Rect.unit (s := S2x2048x256) (k0_off5 arg12_r0) S1x2048x256.size (k0_off5_inb k0_t1 arg12_r0 arg13_r0 arg14_r0 arg15_r0 arg16_r0 arg17_r0 arg18_r0 k0_hw1 k0_h1)).WholeWords (EltTy.packing .bf16) := fun k0_t1 arg12_r0 arg13_r0 arg14_r0 arg15_r0 arg16_r0 arg17_r0 arg18_r0 k0_hw1 k0_h1 => k0_hw1.2.2.2.2.1 k0_h1 (k0_off5_inb k0_t1 arg12_r0 arg13_r0 arg14_r0 arg15_r0 arg16_r0 arg17_r0 arg18_r0 k0_hw1 k0_h1)
theorem k0_off7_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h2 : k0_cond2 k0_t1 arg18_r0 = 1#1), ∀ a, (k0_off7 arg14_r0) a + S1.size a ≤ S2.size a := fun k0_t1 arg12_r0 arg13_r0 arg14_r0 arg15_r0 arg16_r0 arg17_r0 arg18_r0 k0_hw1 k0_h2 => k0_hw1.2.2.2.2.2.1 k0_h2
theorem k0_off8_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h2 : k0_cond2 k0_t1 arg18_r0 = 1#1), ∀ a, (k0_off8 arg14_r0) a + S1x2048x128.size a ≤ S2x2048x128.size a := fun k0_t1 arg12_r0 arg13_r0 arg14_r0 arg15_r0 arg16_r0 arg17_r0 arg18_r0 k0_hw1 k0_h2 => k0_hw1.2.2.2.2.2.2.1 k0_h2
theorem k0_off9_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h2 : k0_cond2 k0_t1 arg18_r0 = 1#1), ∀ a, (k0_off9 arg18_r0) a + S2048x128.size a ≤ S16384x128.size a := fun k0_t1 arg12_r0 arg13_r0 arg14_r0 arg15_r0 arg16_r0 arg17_r0 arg18_r0 k0_hw1 k0_h2 => k0_hw1.2.2.2.2.2.2.2.1 k0_h2
theorem k0_off10_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h3 : k0_cond3 k0_t1 arg18_r0 = 1#1), ∀ a, (k0_off10 arg13_r0) a + S1.size a ≤ S2.size a := fun k0_t1 arg12_r0 arg13_r0 arg14_r0 arg15_r0 arg16_r0 arg17_r0 arg18_r0 k0_hw1 k0_h3 => k0_hw1.2.2.2.2.2.2.2.2.1 k0_h3
theorem k0_off11_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h3 : k0_cond3 k0_t1 arg18_r0 = 1#1), ∀ a, (k0_off11 arg13_r0) a + S1x2048x256.size a ≤ S2x2048x256.size a := fun k0_t1 arg12_r0 arg13_r0 arg14_r0 arg15_r0 arg16_r0 arg17_r0 arg18_r0 k0_hw1 k0_h3 => k0_hw1.2.2.2.2.2.2.2.2.2.1 k0_h3
theorem k0_off12_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h3 : k0_cond3 k0_t1 arg18_r0 = 1#1), ∀ a, (k0_off12 arg18_r0) a + S2048x256.size a ≤ S16384x256.size a := fun k0_t1 arg12_r0 arg13_r0 arg14_r0 arg15_r0 arg16_r0 arg17_r0 arg18_r0 k0_hw1 k0_h3 => k0_hw1.2.2.2.2.2.2.2.2.2.2.1 k0_h3
theorem k0_off12_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h3 : k0_cond3 k0_t1 arg18_r0 = 1#1), (Rect.unit (s := S16384x256) (k0_off12 arg18_r0) S2048x256.size (k0_off12_inb k0_t1 arg12_r0 arg13_r0 arg14_r0 arg15_r0 arg16_r0 arg17_r0 arg18_r0 k0_hw1 k0_h3)).WholeWords (EltTy.packing .bf16) := fun k0_t1 arg12_r0 arg13_r0 arg14_r0 arg15_r0 arg16_r0 arg17_r0 arg18_r0 k0_hw1 k0_h3 => k0_hw1.2.2.2.2.2.2.2.2.2.2.2.1 k0_h3 (k0_off12_inb k0_t1 arg12_r0 arg13_r0 arg14_r0 arg15_r0 arg16_r0 arg17_r0 arg18_r0 k0_hw1 k0_h3)
theorem k0_off11_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h3 : k0_cond3 k0_t1 arg18_r0 = 1#1), (Rect.unit (s := S2x2048x256) (k0_off11 arg13_r0) S1x2048x256.size (k0_off11_inb k0_t1 arg12_r0 arg13_r0 arg14_r0 arg15_r0 arg16_r0 arg17_r0 arg18_r0 k0_hw1 k0_h3)).WholeWords (EltTy.packing .bf16) := fun k0_t1 arg12_r0 arg13_r0 arg14_r0 arg15_r0 arg16_r0 arg17_r0 arg18_r0 k0_hw1 k0_h3 => k0_hw1.2.2.2.2.2.2.2.2.2.2.2.2.1 k0_h3 (k0_off11_inb k0_t1 arg12_r0 arg13_r0 arg14_r0 arg15_r0 arg16_r0 arg17_r0 arg18_r0 k0_hw1 k0_h3)
theorem k0_off13_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h4 : k0_cond4 k0_t1 arg18_r0 = 1#1), ∀ a, (k0_off13 arg15_r0) a + S1.size a ≤ S2.size a := fun k0_t1 arg12_r0 arg13_r0 arg14_r0 arg15_r0 arg16_r0 arg17_r0 arg18_r0 k0_hw1 k0_h4 => k0_hw1.2.2.2.2.2.2.2.2.2.2.2.2.2.1 k0_h4
theorem k0_off14_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h4 : k0_cond4 k0_t1 arg18_r0 = 1#1), ∀ a, (k0_off14 arg15_r0) a + S1x2048x128.size a ≤ S2x2048x128.size a := fun k0_t1 arg12_r0 arg13_r0 arg14_r0 arg15_r0 arg16_r0 arg17_r0 arg18_r0 k0_hw1 k0_h4 => k0_hw1.2.2.2.2.2.2.2.2.2.2.2.2.2.2.1 k0_h4
theorem k0_off15_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h4 : k0_cond4 k0_t1 arg18_r0 = 1#1), ∀ a, (k0_off15 arg18_r0) a + S2048x128.size a ≤ S16384x128.size a := fun k0_t1 arg12_r0 arg13_r0 arg14_r0 arg15_r0 arg16_r0 arg17_r0 arg18_r0 k0_hw1 k0_h4 => k0_hw1.2.2.2.2.2.2.2.2.2.2.2.2.2.2.2.1 k0_h4
theorem k0_off19_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h8 : k0_cond8 k0_t1 arg18_r0 = 1#1), ∀ a, (k0_off19 arg16_r0) a + S1.size a ≤ S2.size a := fun k0_t1 arg12_r0 arg13_r0 arg14_r0 arg15_r0 arg16_r0 arg17_r0 arg18_r0 k0_hw1 k0_h8 => k0_hw1.2.2.2.2.2.2.2.2.2.2.2.2.2.2.2.2.1 k0_h8
theorem k0_off20_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h8 : k0_cond8 k0_t1 arg18_r0 = 1#1), ∀ a, (k0_off20 arg18_r0) a + S2048x128.size a ≤ S16384x128.size a := fun k0_t1 arg12_r0 arg13_r0 arg14_r0 arg15_r0 arg16_r0 arg17_r0 arg18_r0 k0_hw1 k0_h8 => k0_hw1.2.2.2.2.2.2.2.2.2.2.2.2.2.2.2.2.2.1 k0_h8
theorem k0_off21_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h8 : k0_cond8 k0_t1 arg18_r0 = 1#1), ∀ a, (k0_off21 arg16_r0) a + S1x2048x128.size a ≤ S2x2048x128.size a := fun k0_t1 arg12_r0 arg13_r0 arg14_r0 arg15_r0 arg16_r0 arg17_r0 arg18_r0 k0_hw1 k0_h8 => k0_hw1.2.2.2.2.2.2.2.2.2.2.2.2.2.2.2.2.2.2.1 k0_h8
theorem k0_off22_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h11 : k0_cond11 k0_t1 arg18_r0 = 1#1), ∀ a, (k0_off22 arg17_r0) a + S1.size a ≤ S2.size a := fun k0_t1 arg12_r0 arg13_r0 arg14_r0 arg15_r0 arg16_r0 arg17_r0 arg18_r0 k0_hw1 k0_h11 => k0_hw1.2.2.2.2.2.2.2.2.2.2.2.2.2.2.2.2.2.2.2.1 k0_h11
theorem k0_off23_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h11 : k0_cond11 k0_t1 arg18_r0 = 1#1), ∀ a, (k0_off23 arg18_r0) a + S2048x128.size a ≤ S16384x128.size a := fun k0_t1 arg12_r0 arg13_r0 arg14_r0 arg15_r0 arg16_r0 arg17_r0 arg18_r0 k0_hw1 k0_h11 => k0_hw1.2.2.2.2.2.2.2.2.2.2.2.2.2.2.2.2.2.2.2.2.1 k0_h11
theorem k0_off24_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (k0_hw1 : k0_chk1 k0_t1 arg12_r0 arg13_r0 arg14_r0 arg15_r0 arg16_r0 arg17_r0 arg18_r0), ∀ (k0_h11 : k0_cond11 k0_t1 arg18_r0 = 1#1), ∀ a, (k0_off24 arg17_r0) a + S1x2048x128.size a ≤ S2x2048x128.size a := fun k0_t1 arg12_r0 arg13_r0 arg14_r0 arg15_r0 arg16_r0 arg17_r0 arg18_r0 k0_hw1 k0_h11 => k0_hw1.2.2.2.2.2.2.2.2.2.2.2.2.2.2.2.2.2.2.2.2.2 k0_h11

def k0_off25 (v42_5_r0 : BitVec 32) : Fin 1 → Nat :=
  let c2_i32_70_r0 : BitVec 32 := 2#32
  let v63_r0 : BitVec 32 := Scalar.remui v42_5_r0 c2_i32_70_r0
  ![v63_r0.toNat]

def k0_off26 (v42_6_r0 : BitVec 32) : Fin 2 → Nat :=
  let c2048_i32_r0 : BitVec 32 := 2048#32
  let true_51_r0 : BitVec 1 := 1#1
  let c1_i32_50_r0 : BitVec 32 := 1#32
  let v43_r0 : BitVec 32 := Scalar.subi v42_6_r0 c1_i32_50_r0
  let v44_r0 : BitVec 32 := Scalar.select true_51_r0 v43_r0 v42_6_r0
  let c_m1_i32_52_r0 : BitVec 32 := 4294967295#32
  let v45_r0 : BitVec 1 := Scalar.cmpi .eq v44_r0 c_m1_i32_52_r0
  let c7_i32_53_r0 : BitVec 32 := 7#32
  let v46_r0 : BitVec 32 := Scalar.select v45_r0 c7_i32_53_r0 v44_r0
  let c0_i32_54_r0 : BitVec 32 := 0#32
  let v47_r0 : BitVec 32 := Scalar.addi v46_r0 c0_i32_54_r0
  let v64_r0 : BitVec 32 := Scalar.muli c2048_i32_r0 v47_r0
  let c0_i32_73_r0 : BitVec 32 := 0#32
  ![v64_r0.toNat, 0]

def k0_chk6 (v42_6_r0 : BitVec 32) : Prop :=
  (∀ a, (k0_off26 v42_6_r0) a + S2048x128.size a ≤ S16384x128.size a)
theorem k0_off26_inb : ∀ (v42_6_r0 : BitVec 32) (k0_hw6 : k0_chk6 v42_6_r0), ∀ a, (k0_off26 v42_6_r0) a + S2048x128.size a ≤ S16384x128.size a := fun v42_6_r0 k0_hw6 => k0_hw6

def k0_off27 (v42_5_r0 : BitVec 32) : Fin 3 → Nat :=
  let c2_i32_70_r0 : BitVec 32 := 2#32
  let v63_r0 : BitVec 32 := Scalar.remui v42_5_r0 c2_i32_70_r0
  let c0_i32_74_r0 : BitVec 32 := 0#32
  let c0_i32_75_r0 : BitVec 32 := 0#32
  ![v63_r0.toNat, 0, 0]

def k0_chk5 (v42_5_r0 : BitVec 32) : Prop :=
  (∀ a, (k0_off25 v42_5_r0) a + S1.size a ≤ S2.size a) ∧
  (∀ a, (k0_off27 v42_5_r0) a + S1x2048x128.size a ≤ S2x2048x128.size a)
theorem k0_off25_inb : ∀ (v42_5_r0 : BitVec 32) (k0_hw5 : k0_chk5 v42_5_r0), ∀ a, (k0_off25 v42_5_r0) a + S1.size a ≤ S2.size a := fun v42_5_r0 k0_hw5 => k0_hw5.1
theorem k0_off27_inb : ∀ (v42_5_r0 : BitVec 32) (k0_hw5 : k0_chk5 v42_5_r0), ∀ a, (k0_off27 v42_5_r0) a + S1x2048x128.size a ≤ S2x2048x128.size a := fun v42_5_r0 k0_hw5 => k0_hw5.2

abbrev stage0_0 : Fin 1 → Memref sig .tc .vmem S384x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384 : Shape := ⟨1, ![16384]⟩
abbrev S16384x256 : Shape := ⟨2, ![16384, 256]⟩
abbrev S100000x128 : Shape := ⟨2, ![100000, 128]⟩
abbrev S100000 : Shape := ⟨1, ![100000]⟩
abbrev S384x256 : Shape := ⟨2, ![384, 256]⟩
abbrev S384x128 : Shape := ⟨2, ![384, 128]⟩
abbrev S384 : Shape := ⟨1, ![384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S256x384 : Shape := ⟨2, ![256, 384]⟩
abbrev S16384x384 : Shape := ⟨2, ![16384, 384]⟩
abbrev S1x384 : Shape := ⟨2, ![1, 384]⟩
abbrev S128x384 : Shape := ⟨2, ![128, 384]⟩

abbrev nBuf : Space → Nat
  | .hbm => 93
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x256, .f32⟩
  | .hbm, ⟨2, _⟩ => ⟨S16384, .f32⟩
  | .hbm, ⟨3, _⟩ => ⟨S100000x128, .f32⟩
  | .hbm, ⟨4, _⟩ => ⟨S100000, .f32⟩
  | .hbm, ⟨5, _⟩ => ⟨S384x256, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S1x1, .i32⟩
  | .hbm, ⟨22, _⟩ => ⟨S16384x1, .i32⟩
  | .hbm, ⟨23, _⟩ => ⟨S16384x1, .i1⟩
  | .hbm, ⟨24, _⟩ => ⟨S16384x1, .i1⟩
  | .hbm, ⟨25, _⟩ => ⟨S_, .i1⟩
  | .hbm, ⟨26, _⟩ => ⟨S16384, .i1⟩
  | .hbm, ⟨27, _⟩ => ⟨S16384x128, .f32⟩
  | .hbm, ⟨28, _⟩ => ⟨S16384x128, .i1⟩
  | .hbm, ⟨29, _⟩ => ⟨S_, .f32⟩
  | .hbm, ⟨30, _⟩ => ⟨S16384x128, .f32⟩
  | .hbm, ⟨31, _⟩ => ⟨S16384x128, .f32⟩
  | .hbm, ⟨32, _⟩ => ⟨S256x384, .f32⟩
  | .hbm, ⟨33, _⟩ => ⟨S16384x384, .f32⟩
  | .hbm, ⟨34, _⟩ => ⟨S1x384, .f32⟩
  | .hbm, ⟨35, _⟩ => ⟨S16384x384, .f32⟩
  | .hbm, ⟨36, _⟩ => ⟨S16384x384, .f32⟩
  | .hbm, ⟨37, _⟩ => ⟨S128x384, .f32⟩
  | .hbm, ⟨38, _⟩ => ⟨S16384x384, .f32⟩
  | .hbm, ⟨39, _⟩ => ⟨S1x384, .f32⟩
  | .hbm, ⟨40, _⟩ => ⟨S16384x384, .f32⟩
  | .hbm, ⟨41, _⟩ => ⟨S16384x384, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S16384x128, .f32⟩
  | .hbm, ⟨51, _⟩ => ⟨S_, .f32⟩
  | .hbm, ⟨52, _⟩ => ⟨S16384x128, .f32⟩
  | .hbm, ⟨53, _⟩ => ⟨S16384x128, .f32⟩
  | .hbm, ⟨54, _⟩ => ⟨S_, .f32⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S_, .f32⟩
  | .hbm, ⟨61, _⟩ => ⟨S16384x128, .f32⟩
  | .hbm, ⟨62, _⟩ => ⟨S16384x128, .f32⟩
  | .hbm, ⟨63, _⟩ => ⟨S_, .f32⟩
  | .hbm, ⟨64, _⟩ => ⟨S16384x128, .f32⟩
  | .hbm, ⟨65, _⟩ => ⟨S16384x128, .f32⟩
  | .hbm, ⟨66, _⟩ => ⟨S16384x128, .f32⟩
  | .hbm, ⟨67, _⟩ => ⟨S16384x128, .f32⟩
  | .hbm, ⟨68, _⟩ => ⟨S16384x128, .f32⟩
  | .hbm, ⟨69, _⟩ => ⟨S_, .f32⟩
  | .hbm, ⟨70, _⟩ => ⟨S16384x128, .f32⟩
  | .hbm, ⟨71, _⟩ => ⟨S16384x128, .f32⟩
  | .hbm, ⟨72, _⟩ => ⟨S16384x128, .f32⟩
  | .hbm, ⟨73, _⟩ => ⟨S16384x128, .f32⟩
  | .hbm, ⟨74, _⟩ => ⟨S16384x128, .f32⟩
  | .hbm, ⟨75, _⟩ => ⟨S_, .i32⟩
  | .hbm, ⟨76, _⟩ => ⟨S16384, .i32⟩
  | .hbm, ⟨77, _⟩ => ⟨S16384, .i1⟩
  | .hbm, ⟨78, _⟩ => ⟨S_, .i32⟩
  | .hbm, ⟨79, _⟩ => ⟨S16384, .i32⟩
  | .hbm, ⟨80, _⟩ => ⟨S16384, .i32⟩
  | .hbm, ⟨81, _⟩ => ⟨S16384, .i32⟩
  | .hbm, ⟨82, _⟩ => ⟨S16384x1, .i32⟩
  | .hbm, ⟨83, _⟩ => ⟨S100000x128, .f32⟩
  | .hbm, ⟨84, _⟩ => ⟨S_, .i32⟩
  | .hbm, ⟨85, _⟩ => ⟨S16384, .i32⟩
  | .hbm, ⟨86, _⟩ => ⟨S16384, .i1⟩
  | .hbm, ⟨87, _⟩ => ⟨S_, .i32⟩
  | .hbm, ⟨88, _⟩ => ⟨S16384, .i32⟩
  | .hbm, ⟨89, _⟩ => ⟨S16384, .i32⟩
  | .hbm, ⟨90, _⟩ => ⟨S16384, .i32⟩
  | .hbm, ⟨91, _⟩ => ⟨S16384x1, .i32⟩
  | .hbm, ⟨92, _⟩ => ⟨S100000, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst : Ref sig .tc := ⟨.hbm, 51, rfl⟩
abbrev main_v20 : Ref sig .tc := ⟨.hbm, 52, rfl⟩
abbrev main_v21 : Ref sig .tc := ⟨.hbm, 53, rfl⟩
abbrev main_cst_0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_1 : Ref sig .tc := ⟨.hbm, 60, rfl⟩
abbrev main_v27 : Ref sig .tc := ⟨.hbm, 61, rfl⟩
abbrev main_v28 : Ref sig .tc := ⟨.hbm, 62, rfl⟩
abbrev main_cst_2 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_3 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c : Ref sig .tc := ⟨.hbm, 75, rfl⟩
abbrev main_v39 : Ref sig .tc := ⟨.hbm, 76, rfl⟩
abbrev main_v40 : Ref sig .tc := ⟨.hbm, 77, rfl⟩
abbrev main_c_4 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_5 : Ref sig .tc := ⟨.hbm, 84, rfl⟩
abbrev main_v46 : Ref sig .tc := ⟨.hbm, 85, rfl⟩
abbrev main_v47 : Ref sig .tc := ⟨.hbm, 86, rfl⟩
abbrev main_c_6 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩

abbrev nD : Nat := 1
abbrev τ : Topo := Topo.v7x

variable {F : FTy → Type} [FloatOps F]
-- ==== Proof.Names.lean ====
/- Names for what the pipelined kernel touches: block `b` of the messages and of the memory array, slot `s` of the
   three double buffers, slot `s`'s semaphores, and the seven words the loop carries before trip `k`. The offsets the
   kernel computes from those words are given in closed form, and its slices are rewritten to the names. -/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Ring.Trips
public import Idealize.ShloMosaic.Lib.Tactic

@[expose] public section

noncomputable section

namespace Cert.Proof.Gru

open Cert.KernelIdeal Cert.KernelIdeal.Gen
open Idealize.ShloMosaic Idealize.ShloMosaic.TcCoe Idealize.ShloMosaic.Tactic
open Idealize.SL Idealize.SL.Sem

/-! ## The buffers -/

/-- The messages, in bf16. -/
abbrev xM : Memref sig .tc .hbm S16384x256 .bf16 := Memref.whole main_call0_v4
/-- The memory array, read and overwritten in place. -/
abbrev mM : Memref sig .tc .hbm S100000x128 .f32 := Memref.whole main_v0_0
/-- The last-update column. -/
abbrev uM : Memref sig .tc .hbm S100000x1 .f32 := Memref.whole main_call0_v17_1
/-- The double buffers of the messages, of the old rows and of the new rows. -/
abbrev xR : Memref sig .tc .vmem S2x2048x256 .bf16 := Memref.whole cc0_scoped0
abbrev hR : Memref sig .tc .vmem S2x2048x128 .f32 := Memref.whole cc0_scoped2
abbrev yR : Memref sig .tc .vmem S2x2048x128 .f32 := Memref.whole cc0_scoped4

/-! ## Offsets by number -/

abbrev blkOff (b : Fin 8) : Fin 2 → Nat := ![2048 * b.val, 0]
abbrev slotOff (s : Fin 2) : Fin 3 → Nat := ![s.val, 0, 0]
abbrev semOff (s : Fin 2) : Fin 1 → Nat := ![s.val]

theorem xblk_inb (b : Fin 8) : ∀ a, blkOff b a + S2048x256.size a ≤ S16384x256.size a := by revert b; decide
theorem mblk_inb (b : Fin 8) : ∀ a, blkOff b a + S2048x128.size a ≤ S16384x128.size a := by revert b; decide
theorem xslot_inb (s : Fin 2) : ∀ a, slotOff s a + S1x2048x256.size a ≤ S2x2048x256.size a := by revert s; decide
theorem hslot_inb (s : Fin 2) : ∀ a, slotOff s a + S1x2048x128.size a ≤ S2x2048x128.size a := by revert s; decide
theorem sem_inb (s : Fin 2) : ∀ a, semOff s a + S1.size a ≤ S2.size a := by revert s; decide

/-- Block `b` of the messages: rows `2048 b` to `2048 b + 2047`. -/
def xblk (b : Fin 8) : Memref sig .tc .hbm S2048x256 .bf16 :=
  xM.slice (Rect.unit (s := S16384x256) (blkOff b) S2048x256.size (xblk_inb b)) (fun _ => rfl)
/-- The rows the kernel updates: the first 16384. -/
def mTop : Memref sig .tc .hbm S16384x128 .f32 :=
  mM.slice (Rect.unit (s := S100000x128) ![0, 0] S16384x128.size inb_S100000x128_S16384x128_0_0) (fun _ => rfl)
/-- Block `b` of those rows. -/
def mblk (b : Fin 8) : Memref sig .tc .hbm S2048x128 .f32 :=
  mTop.slice (Rect.unit (s := S16384x128) (blkOff b) S2048x128.size (mblk_inb b)) (fun _ => rfl)
/-- The first 16384 entries of the last-update column. -/
def uTop : Memref sig .tc .hbm S16384x1 .f32 :=
  uM.slice (Rect.unit (s := S100000x1) ![0, 0] S16384x1.size inb_S100000x1_S16384x1_0_0) (fun _ => rfl)
/-- Slot `s` of a double buffer. -/
def xslot (s : Fin 2) : Memref sig .tc .vmem S2048x256 .bf16 :=
  (xR.slice (Rect.unit (s := S2x2048x256) (slotOff s) S1x2048x256.size (xslot_inb s)) (fun _ => rfl)).squeeze S2048x256 squeezes_S1x2048x256_S2048x256
def hslot (s : Fin 2) : Memref sig .tc .vmem S2048x128 .f32 :=
  (hR.slice (Rect.unit (s := S2x2048x128) (slotOff s) S1x2048x128.size (hslot_inb s)) (fun _ => rfl)).squeeze S2048x128 squeezes_S1x2048x128_S2048x128
def yslot (s : Fin 2) : Memref sig .tc .vmem S2048x128 .f32 :=
  (yR.slice (Rect.unit (s := S2x2048x128) (slotOff s) S1x2048x128.size (hslot_inb s)) (fun _ => rfl)).squeeze S2048x128 squeezes_S1x2048x128_S2048x128
/-- Slot `s`'s semaphore, of each double buffer. -/
def xsem (s : Fin 2) : DmaSems sig S_ := (cc0_scoped1.slice (Rect.unit (s := S2) (semOff s) S1.size (sem_inb s))).squeeze S_ squeezes_S1_S_
def hsem (s : Fin 2) : DmaSems sig S_ := (cc0_scoped3.slice (Rect.unit (s := S2) (semOff s) S1.size (sem_inb s))).squeeze S_ squeezes_S1_S_
def ysem (s : Fin 2) : DmaSems sig S_ := (cc0_scoped5.slice (Rect.unit (s := S2) (semOff s) S1.size (sem_inb s))).squeeze S_ squeezes_S1_S_

/-! ## The carried words before trip `k` -/

/-- How many blocks have been started: one ahead of the trip, at most 8. -/
def wIss (k : ℕ) : BitVec 32 := BitVec.ofNat 32 (min (k + 1) 8)
/-- How many have been waited for. -/
def wCur (k : ℕ) : BitVec 32 := BitVec.ofNat 32 k
/-- How many new blocks have been written back and waited for. -/
def wBack (k : ℕ) : BitVec 32 := BitVec.ofNat 32 (k - 1)
/-- The block index, which wraps to 0 after the last. -/
def wBlk (k : ℕ) : BitVec 32 := BitVec.ofNat 32 (k % 8)
/-- The seven words the loop carries before trip `k`. -/
def carried (k : ℕ) : BitVec 32 × BitVec 32 × BitVec 32 × BitVec 32 × BitVec 32 × BitVec 32 × BitVec 32 :=
  (wIss k, wCur k, wIss k, wCur k, wCur k, wBack k, wBlk k)

theorem trips_eq : k0_t1_loop.trips = 8 := by decide +kernel
theorem trip_lt (k : Fin k0_t1_loop.trips) : k.val < 8 := Nat.lt_of_lt_of_eq k.isLt trips_eq

/-! ## What each trip's conditions say -/

theorem cond1_true : ∀ k : Fin k0_t1_loop.trips, k.val < 7 → k0_cond1 k (wBlk k) = 1#1 := by decide +kernel
theorem cond1_false : ∀ k : Fin k0_t1_loop.trips, ¬ k.val < 7 → ¬ k0_cond1 k (wBlk k) = 1#1 := by decide +kernel
theorem cond2_true : ∀ k : Fin k0_t1_loop.trips, k.val < 7 → k0_cond2 k (wBlk k) = 1#1 := by decide +kernel
theorem cond2_false : ∀ k : Fin k0_t1_loop.trips, ¬ k.val < 7 → ¬ k0_cond2 k (wBlk k) = 1#1 := by decide +kernel
theorem cond3_true : ∀ k : Fin k0_t1_loop.trips, k0_cond3 k (wBlk k) = 1#1 := by decide +kernel
theorem cond4_true : ∀ k : Fin k0_t1_loop.trips, k0_cond4 k (wBlk k) = 1#1 := by decide +kernel
theorem cond8_true : ∀ k : Fin k0_t1_loop.trips, k0_cond8 k (wBlk k) = 1#1 := by decide +kernel
theorem cond11_true : ∀ k : Fin k0_t1_loop.trips, 1 ≤ k.val → k0_cond11 k (wBlk k) = 1#1 := by decide +kernel
theorem cond11_false : ∀ k : Fin k0_t1_loop.trips, ¬ 1 ≤ k.val → ¬ k0_cond11 k (wBlk k) = 1#1 := by decide +kernel

/-! ## The offsets in closed form -/

theorem off4_eq : ∀ k < 7, k0_off4 (wIss k) = semOff (Ring.sl 2 (k + 1)) := by decide +kernel
theorem off5_eq : ∀ k < 7, k0_off5 (wIss k) = slotOff (Ring.sl 2 (k + 1)) := by decide +kernel
theorem off6_eq : ∀ k < 7, k0_off6 (wBlk k) = blkOff (Ring.bk 8 (k + 1)) := by decide +kernel
theorem off7_eq : ∀ k < 7, k0_off7 (wIss k) = semOff (Ring.sl 2 (k + 1)) := by decide +kernel
theorem off8_eq : ∀ k < 7, k0_off8 (wIss k) = slotOff (Ring.sl 2 (k + 1)) := by decide +kernel
theorem off9_eq : ∀ k < 7, k0_off9 (wBlk k) = blkOff (Ring.bk 8 (k + 1)) := by decide +kernel
theorem off10_eq : ∀ k < 8, k0_off10 (wCur k) = semOff (Ring.sl 2 k) := by decide +kernel
theorem off11_eq : ∀ k < 8, k0_off11 (wCur k) = slotOff (Ring.sl 2 k) := by decide +kernel
theorem off12_eq : ∀ k < 8, k0_off12 (wBlk k) = blkOff (Ring.bk 8 k) := by decide +kernel
theorem off13_eq : ∀ k < 8, k0_off13 (wCur k) = semOff (Ring.sl 2 k) := by decide +kernel
theorem off14_eq : ∀ k < 8, k0_off14 (wCur k) = slotOff (Ring.sl 2 k) := by decide +kernel
theorem off15_eq : ∀ k < 8, k0_off15 (wBlk k) = blkOff (Ring.bk 8 k) := by decide +kernel
theorem off16_eq : ∀ k < 8, k0_off16 (wCur k) = slotOff (Ring.sl 2 k) := by decide +kernel
theorem off17_eq : ∀ k < 8, k0_off17 (wCur k) = slotOff (Ring.sl 2 k) := by decide +kernel
theorem off18_eq : ∀ k < 8, k0_off18 (wCur k) = slotOff (Ring.sl 2 k) := by decide +kernel
theorem off19_eq : ∀ k < 8, k0_off19 (wCur k) = semOff (Ring.sl 2 k) := by decide +kernel
theorem off20_eq : ∀ k < 8, k0_off20 (wBlk k) = blkOff (Ring.bk 8 k) := by decide +kernel
theorem off21_eq : ∀ k < 8, k0_off21 (wCur k) = slotOff (Ring.sl 2 k) := by decide +kernel
theorem off22_eq : ∀ k < 8, 1 ≤ k → k0_off22 (wBack k) = semOff (Ring.sl 2 (k + 1)) := by decide +kernel
theorem off23_eq : ∀ k < 8, 1 ≤ k → k0_off23 (wBlk k) = blkOff (Ring.bk 8 (k - 1)) := by decide +kernel
theorem off24_eq : ∀ k < 8, 1 ≤ k → k0_off24 (wBack k) = slotOff (Ring.sl 2 (k + 1)) := by decide +kernel

theorem off25_eq : k0_off25 (wBack 8) = semOff 1 := by decide +kernel
theorem off26_eq : k0_off26 (wBlk 8) = blkOff 7 := by decide +kernel
theorem off27_eq : k0_off27 (wBack 8) = slotOff 1 := by decide +kernel

/-! ## The checks the trips make of the carried words -/

theorem chk1_holds : ∀ k : Fin k0_t1_loop.trips, k0_chk1 k (wIss k) (wCur k) (wIss k) (wCur k) (wCur k) (wBack k) (wBlk k) := by decide +kernel
theorem chk2_holds : ∀ k < 8, k0_chk2 (wCur k) := by decide +kernel
theorem chk3_holds : ∀ k < 8, k0_chk3 (wCur k) := by decide +kernel
theorem chk4_holds : ∀ k < 8, k0_chk4 (wCur k) := by decide +kernel
theorem chk5_holds : k0_chk5 (wBack 8) := by decide +kernel
theorem chk6_holds : k0_chk6 (wBlk 8) := by decide +kernel

instance (s : Fin 2) : ClosedOff (slotOff s) := ⟨slotOff s, rfl⟩
instance (b : Fin 8) : ClosedOff (blkOff b) := ⟨blkOff b, rfl⟩
/-- The trip's loads and its store, through the double buffers themselves. -/
instance (k : Fin k0_t1_loop.trips) : ClosedOff (k0_off16 (wCur k.val)) := ⟨slotOff (Ring.sl 2 k.val), off16_eq _ (trip_lt k)⟩
instance (k : Fin k0_t1_loop.trips) : ClosedOff (k0_off17 (wCur k.val)) := ⟨slotOff (Ring.sl 2 k.val), off17_eq _ (trip_lt k)⟩
instance (k : Fin k0_t1_loop.trips) : ClosedOff (k0_off18 (wCur k.val)) := ⟨slotOff (Ring.sl 2 k.val), off18_eq _ (trip_lt k)⟩

/-! ## The kernel's slices are the names -/

section Canon

private theorem sem_congr (A : DmaSems sig S2) {off : Fin 1 → Nat} {s : Fin 2} (e : off = semOff s) (hh) :
    (A.slice (Rect.unit (s := S2) off S1.size hh)).squeeze S_ squeezes_S1_S_
      = (A.slice (Rect.unit (s := S2) (semOff s) S1.size (sem_inb s))).squeeze S_ squeezes_S1_S_ :=
  congrArg (fun A : DmaSems sig S1 => A.squeeze S_ squeezes_S1_S_) (SemArray.slice_unit_congr _ e _ _)
private theorem x_congr {off : Fin 3 → Nat} {s : Fin 2} (e : off = slotOff s) (hh hs) :
    (xR.slice (Rect.unit (s := S2x2048x256) off S1x2048x256.size hh) hs).squeeze S2048x256 squeezes_S1x2048x256_S2048x256 = xslot s :=
  congrArg (fun M : Memref sig .tc .vmem S1x2048x256 .bf16 => M.squeeze S2048x256 squeezes_S1x2048x256_S2048x256) (Memref.slice_unit_congr _ e _ _ _ _)
private theorem hy_congr (A : Memref sig .tc .vmem S2x2048x128 .f32) {off : Fin 3 → Nat} {s : Fin 2} (e : off = slotOff s) (hh hs) :
    (A.slice (Rect.unit (s := S2x2048x128) off S1x2048x128.size hh) hs).squeeze S2048x128 squeezes_S1x2048x128_S2048x128
      = (A.slice (Rect.unit (s := S2x2048x128) (slotOff s) S1x2048x128.size (hslot_inb s)) (fun _ => rfl)).squeeze S2048x128 squeezes_S1x2048x128_S2048x128 :=
  congrArg (fun M : Memref sig .tc .vmem S1x2048x128 .f32 => M.squeeze S2048x128 squeezes_S1x2048x128_S2048x128) (Memref.slice_unit_congr _ e _ _ _ _)
private theorem xb_congr {off : Fin 2 → Nat} {b : Fin 8} (e : off = blkOff b) (hh hs) :
    xM.slice (Rect.unit (s := S16384x256) off S2048x256.size hh) hs = xblk b := Memref.slice_unit_congr _ e _ _ _ (fun _ => rfl)
private theorem mb_congr {off : Fin 2 → Nat} {b : Fin 8} (e : off = blkOff b) (hh hs) :
    mTop.slice (Rect.unit (s := S16384x128) off S2048x128.size hh) hs = mblk b := Memref.slice_unit_congr _ e _ _ _ (fun _ => rfl)

/-- The rows updated, and the entries of the last-update column. -/
@[sl_canon] theorem top_m (hh hs) : mM.slice (Rect.unit (s := S100000x128) ![0, 0] S16384x128.size hh) hs = mTop := rfl
@[sl_canon] theorem top_u (hh hs) : uM.slice (Rect.unit (s := S100000x1) ![0, 0] S16384x1.size hh) hs = uTop := rfl

/-- Before the loop: slot 0 and block 0 of the messages and of the old rows. -/
@[sl_canon] theorem sem_x0 (hh) : (cc0_scoped1.slice (Rect.unit (s := S2) k0_off1 S1.size hh)).squeeze S_ squeezes_S1_S_ = xsem 0 := sem_congr _ (by decide) _
@[sl_canon] theorem sem_h0 (hh) : (cc0_scoped3.slice (Rect.unit (s := S2) k0_off1 S1.size hh)).squeeze S_ squeezes_S1_S_ = hsem 0 := sem_congr _ (by decide) _
@[sl_canon] theorem slot_x0 (hh hs) : (xR.slice (Rect.unit (s := S2x2048x256) k0_off2 S1x2048x256.size hh) hs).squeeze S2048x256 squeezes_S1x2048x256_S2048x256 = xslot 0 := x_congr (by decide) _ _
@[sl_canon] theorem slot_h0 (hh hs) : (hR.slice (Rect.unit (s := S2x2048x128) k0_off3 S1x2048x128.size hh) hs).squeeze S2048x128 squeezes_S1x2048x128_S2048x128 = hslot 0 := hy_congr _ (by decide) _ _
@[sl_canon] theorem blk_x0 (hh hs) : xM.slice (Rect.unit (s := S16384x256) ![0, 0] S2048x256.size hh) hs = xblk 0 := xb_congr (by decide) _ _
@[sl_canon] theorem blk_m0 (hh hs) : mTop.slice (Rect.unit (s := S16384x128) ![0, 0] S2048x128.size hh) hs = mblk 0 := mb_congr (by decide) _ _

section K
variable (k : ℕ)

/-- Trip `k` starts block `k + 1` into slot `(k + 1) % 2`, -/
@[sl_canon] theorem sem_xI (hk : k < 7) (hh) : (cc0_scoped1.slice (Rect.unit (s := S2) (k0_off4 (wIss k)) S1.size hh)).squeeze S_ squeezes_S1_S_ = xsem (Ring.sl 2 (k + 1)) := sem_congr _ (off4_eq k hk) _
@[sl_canon] theorem sem_hI (hk : k < 7) (hh) : (cc0_scoped3.slice (Rect.unit (s := S2) (k0_off7 (wIss k)) S1.size hh)).squeeze S_ squeezes_S1_S_ = hsem (Ring.sl 2 (k + 1)) := sem_congr _ (off7_eq k hk) _
@[sl_canon] theorem slot_xI (hk : k < 7) (hh hs) : (xR.slice (Rect.unit (s := S2x2048x256) (k0_off5 (wIss k)) S1x2048x256.size hh) hs).squeeze S2048x256 squeezes_S1x2048x256_S2048x256 = xslot (Ring.sl 2 (k + 1)) := x_congr (off5_eq k hk) _ _
@[sl_canon] theorem slot_hI (hk : k < 7) (hh hs) : (hR.slice (Rect.unit (s := S2x2048x128) (k0_off8 (wIss k)) S1x2048x128.size hh) hs).squeeze S2048x128 squeezes_S1x2048x128_S2048x128 = hslot (Ring.sl 2 (k + 1)) := hy_congr _ (off8_eq k hk) _ _
@[sl_canon] theorem blk_xI (hk : k < 7) (hh hs) : xM.slice (Rect.unit (s := S16384x256) (k0_off6 (wBlk k)) S2048x256.size hh) hs = xblk (Ring.bk 8 (k + 1)) := xb_congr (off6_eq k hk) _ _
@[sl_canon] theorem blk_mI (hk : k < 7) (hh hs) : mTop.slice (Rect.unit (s := S16384x128) (k0_off9 (wBlk k)) S2048x128.size hh) hs = mblk (Ring.bk 8 (k + 1)) := mb_congr (off9_eq k hk) _ _
/-- waits for block `k` in slot `k % 2`, -/
@[sl_canon] theorem sem_xW (hk : k < 8) (hh) : (cc0_scoped1.slice (Rect.unit (s := S2) (k0_off10 (wCur k)) S1.size hh)).squeeze S_ squeezes_S1_S_ = xsem (Ring.sl 2 k) := sem_congr _ (off10_eq k hk) _
@[sl_canon] theorem sem_hW (hk : k < 8) (hh) : (cc0_scoped3.slice (Rect.unit (s := S2) (k0_off13 (wCur k)) S1.size hh)).squeeze S_ squeezes_S1_S_ = hsem (Ring.sl 2 k) := sem_congr _ (off13_eq k hk) _
@[sl_canon] theorem slot_xW (hk : k < 8) (hh hs) : (xR.slice (Rect.unit (s := S2x2048x256) (k0_off11 (wCur k)) S1x2048x256.size hh) hs).squeeze S2048x256 squeezes_S1x2048x256_S2048x256 = xslot (Ring.sl 2 k) := x_congr (off11_eq k hk) _ _
@[sl_canon] theorem slot_hW (hk : k < 8) (hh hs) : (hR.slice (Rect.unit (s := S2x2048x128) (k0_off14 (wCur k)) S1x2048x128.size hh) hs).squeeze S2048x128 squeezes_S1x2048x128_S2048x128 = hslot (Ring.sl 2 k) := hy_congr _ (off14_eq k hk) _ _
@[sl_canon] theorem blk_xW (hk : k < 8) (hh hs) : xM.slice (Rect.unit (s := S16384x256) (k0_off12 (wBlk k)) S2048x256.size hh) hs = xblk (Ring.bk 8 k) := xb_congr (off12_eq k hk) _ _
@[sl_canon] theorem blk_mW (hk : k < 8) (hh hs) : mTop.slice (Rect.unit (s := S16384x128) (k0_off15 (wBlk k)) S2048x128.size hh) hs = mblk (Ring.bk 8 k) := mb_congr (off15_eq k hk) _ _
/-- sends the new block `k` back from slot `k % 2`, -/
@[sl_canon] theorem sem_yI (hk : k < 8) (hh) : (cc0_scoped5.slice (Rect.unit (s := S2) (k0_off19 (wCur k)) S1.size hh)).squeeze S_ squeezes_S1_S_ = ysem (Ring.sl 2 k) := sem_congr _ (off19_eq k hk) _
@[sl_canon] theorem slot_yI (hk : k < 8) (hh hs) : (yR.slice (Rect.unit (s := S2x2048x128) (k0_off21 (wCur k)) S1x2048x128.size hh) hs).squeeze S2048x128 squeezes_S1x2048x128_S2048x128 = yslot (Ring.sl 2 k) := hy_congr _ (off21_eq k hk) _ _
@[sl_canon] theorem blk_yI (hk : k < 8) (hh hs) : mTop.slice (Rect.unit (s := S16384x128) (k0_off20 (wBlk k)) S2048x128.size hh) hs = mblk (Ring.bk 8 k) := mb_congr (off20_eq k hk) _ _
/-- and waits for the new block `k - 1`. -/
@[sl_canon] theorem sem_yW (hk : k < 8) (h1 : 1 ≤ k) (hh) : (cc0_scoped5.slice (Rect.unit (s := S2) (k0_off22 (wBack k)) S1.size hh)).squeeze S_ squeezes_S1_S_ = ysem (Ring.sl 2 (k + 1)) := sem_congr _ (off22_eq k hk h1) _
@[sl_canon] theorem slot_yW (hk : k < 8) (h1 : 1 ≤ k) (hh hs) : (yR.slice (Rect.unit (s := S2x2048x128) (k0_off24 (wBack k)) S1x2048x128.size hh) hs).squeeze S2048x128 squeezes_S1x2048x128_S2048x128 = yslot (Ring.sl 2 (k + 1)) := hy_congr _ (off24_eq k hk h1) _ _
@[sl_canon] theorem blk_yW (hk : k < 8) (h1 : 1 ≤ k) (hh hs) : mTop.slice (Rect.unit (s := S16384x128) (k0_off23 (wBlk k)) S2048x128.size hh) hs = mblk (Ring.bk 8 (k - 1)) := mb_congr (off23_eq k hk h1) _ _

end K

/-- After the loop: the new block 7, in slot 1. -/
@[sl_canon] theorem sem_yE (hh) : (cc0_scoped5.slice (Rect.unit (s := S2) (k0_off25 (wBack 8)) S1.size hh)).squeeze S_ squeezes_S1_S_ = ysem 1 := sem_congr _ off25_eq _
@[sl_canon] theorem slot_yE (hh hs) : (yR.slice (Rect.unit (s := S2x2048x128) (k0_off27 (wBack 8)) S1x2048x128.size hh) hs).squeeze S2048x128 squeezes_S1x2048x128_S2048x128 = yslot 1 := hy_congr _ off27_eq _ _
@[sl_canon] theorem blk_yE (hh hs) : mTop.slice (Rect.unit (s := S16384x128) (k0_off26 (wBlk 8)) S2048x128.size hh) hs = mblk 7 := mb_congr off26_eq _ _

end Canon

end Cert.Proof.Gru

end
-- ==== Proof.Pieces.lean ====
/- The resources the kernel's pipeline moves about: a block at home, a slot held, a slot's counter, a block in flight. -/
module

public import proofs.«01_k».proof.Proof.Names

@[expose] public section

noncomputable section

namespace Cert.Proof.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's algebra beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

variable (c : Dev nD)

/-- A buffer's contents, by the memref that names it. -/
abbrev XBuf (F : FTy → Type) [FloatOps F] (c : Dev nD) := Buf (Elt F) (xM.view.loc (c : Thread nD τ))
abbrev MBuf (F : FTy → Type) [FloatOps F] (c : Dev nD) := Buf (Elt F) (mM.view.loc (c : Thread nD τ))

abbrev xcell (s : Fin 2) : sProp 𝕄 := semVal ((c : Thread nD τ), SemLoc.dma (xsem s).sem) 0
abbrev hcell (s : Fin 2) : sProp 𝕄 := semVal ((c : Thread nD τ), SemLoc.dma (hsem s).sem) 0
abbrev ycell (s : Fin 2) : sProp 𝕄 := semVal ((c : Thread nD τ), SemLoc.dma (ysem s).sem) 0

abbrev xslotP (s : Fin 2) (f : Buf (Elt F) ((xslot s).view.loc (c : Thread nD τ))) : sProp 𝕄 :=
  (xslot s).view.loc (c : Thread nD τ) ↦[(xslot s).view.set]{fullShare} f
abbrev hslotP (s : Fin 2) (f : Buf (Elt F) ((hslot s).view.loc (c : Thread nD τ))) : sProp 𝕄 :=
  (hslot s).view.loc (c : Thread nD τ) ↦[(hslot s).view.set]{fullShare} f
abbrev yslotP (s : Fin 2) (f : Buf (Elt F) ((yslot s).view.loc (c : Thread nD τ))) : sProp 𝕄 :=
  (yslot s).view.loc (c : Thread nD τ) ↦[(yslot s).view.set]{fullShare} f

/-- Block `b` of the messages at home. -/
abbrev xP (XA : XBuf F c) (b : Fin 8) : sProp 𝕄 := (xblk b).view.loc (c : Thread nD τ) ↦[(xblk b).view.set]{fullShare} XA
/-- Block `b` of the memory array at home. -/
abbrev mP (A : MBuf F c) (b : Fin 8) : sProp 𝕄 := (mblk b).view.loc (c : Thread nD τ) ↦[(mblk b).view.set]{fullShare} A

/-- What a block's transfer leaves in a slot: the block, written whole. -/
abbrev xlanded (XA : XBuf F c) (s : Fin 2) (b : Fin 8) (f : Buf (Elt F) ((xslot s).view.loc (c : Thread nD τ))) : Buf (Elt F) ((xslot s).view.loc (c : Thread nD τ)) :=
  (xslot s).view.writes (Elt F) f [⟨Rect.whole S2048x256, ReadAs.same.apply ((xblk b).view.read (Elt F) XA)⟩]
abbrev hlanded (A : MBuf F c) (s : Fin 2) (b : Fin 8) (f : Buf (Elt F) ((hslot s).view.loc (c : Thread nD τ))) : Buf (Elt F) ((hslot s).view.loc (c : Thread nD τ)) :=
  (hslot s).view.writes (Elt F) f [⟨Rect.whole S2048x128, ReadAs.same.apply ((mblk b).view.read (Elt F) A)⟩]

abbrev NX (s : Fin 2) (b : Fin 8) : ℕ := (xslot s).view.amount (SemLoc.dma (xsem s).sem)
abbrev NH (s : Fin 2) (b : Fin 8) : ℕ := (hslot s).view.amount (SemLoc.dma (hsem s).sem)
abbrev NY (s : Fin 2) (b : Fin 8) : ℕ := (mblk b).view.amount (SemLoc.dma (ysem s).sem)

/-- Slot `s` in flight with block `b` of the messages; -/
abbrev xflight (XA : XBuf F c) (s : Fin 2) (b : Fin 8) (f : Buf (Elt F) ((xslot s).view.loc (c : Thread nD τ))) : sProp 𝕄 :=
  Transfers.Flight countersEmb (c : Thread nD τ) (SemLoc.dma (xsem s).sem) () (NX s b) iprop(xslotP c s (xlanded c XA s b f) ∗ xP c XA b)
/-- with block `b` of the old rows; -/
abbrev hflight (A : MBuf F c) (s : Fin 2) (b : Fin 8) (f : Buf (Elt F) ((hslot s).view.loc (c : Thread nD τ))) : sProp 𝕄 :=
  Transfers.Flight countersEmb (c : Thread nD τ) (SemLoc.dma (hsem s).sem) () (NH s b) iprop(hslotP c s (hlanded c A s b f) ∗ mP c A b)
/-- slot `s` of the new rows in flight to block `b`, which it leaves at `A`. -/
abbrev yflight (A : MBuf F c) (s : Fin 2) (b : Fin 8) (f : Buf (Elt F) ((yslot s).view.loc (c : Thread nD τ))) : sProp 𝕄 :=
  Transfers.Flight countersEmb (c : Thread nD τ) (SemLoc.dma (ysem s).sem) () (NY s b) iprop(mP c A b ∗ yslotP c s f)

end Cert.Proof.Gru

end
-- ==== Proof.Values.lean ====
/- What one trip of the pipeline computes: the new rows of a block from the block's messages and its old rows, and the
   memory array with every block updated. A landed slot loads the block; the block's write leaves the new rows. -/
module

public import proofs.«01_k».proof.Proof.Pieces
public import Idealize.ShloMosaic.Lib.Pointwise.Index
public import Idealize.ShloMosaic.Lib.Writes
public import Idealize.ShloMosaic.Lib.ViewIndex
public import Idealize.ShloMosaic.Lib.Pipeline.Value

@[expose] public section

noncomputable section

namespace Cert.Proof.Gru

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

/-! ## A block's new rows -/

/-- The new rows of a block of 2048 from its messages `x` and its old rows `h`, under the two weight matrices and biases. -/
def gruBlock (v2 : FVec F S384x256 .bf16) (v4 : FVec F S384x128 .bf16) (v6 v8 : FVec F S1x384 .f32)
    (x : FVec F S2048x256 .bf16) (h : FVec F S2048x128 .f32) : FVec F S2048x128 .f32 :=
  shapeCast S2048x128 (k0_pay2 v2 v4 v6 v8 x (shapeCast S1x2048x128 h shapeCasts_S2048x128_S1x2048x128)) shapeCasts_S1x2048x128_S2048x128

variable (c : Dev nD)

/-- The new rows of block `b`, from the arrays. -/
def newBlock (v2 : FVec F S384x256 .bf16) (v4 : FVec F S384x128 .bf16) (v6 v8 : FVec F S1x384 .f32)
    (XA : XBuf F c) (A : MBuf F c) (b : Fin 8) : FVec F S2048x128 .f32 :=
  gruBlock v2 v4 v6 v8 ((xblk b).view.read (Elt F) XA) ((mblk b).view.read (Elt F) A)

/-- The memory array with its first 16384 rows updated, block by block. -/
def newRows (v2 : FVec F S384x256 .bf16) (v4 : FVec F S384x128 .bf16) (v6 v8 : FVec F S1x384 .f32)
    (XA : XBuf F c) (A : MBuf F c) : MBuf F c :=
  fun (i : S100000x128.Idx) => if h : (i 0).val < 16384 then
      newBlock c v2 v4 v6 v8 XA A ⟨(i 0).val / 2048, by omega⟩ (ix2 (n0 := 2048) (n1 := 128) ⟨(i 0).val % 2048, by omega⟩ (i 1))
    else A i

/-! ## Slots -/

/-- A slot a transfer has landed in loads the payload, of the messages -/
theorem load_xslot {off : Fin 3 → Nat} {s : Fin 2} (e : off = slotOff s) (hh) (f : Buf (Elt F) ((xslot s).view.loc (c : Thread nD τ)))
    (w : S2048x256.Idx → Elt F .bf16) (h : S1x2048x256.ShapeCasts S2048x256) :
    shapeCast S2048x256 (View.readAt (Elt F) xR.view (Rect.unit (s := S2x2048x256) off S1x2048x256.size hh).toLoadRect
      ((xslot s).view.writes (Elt F) f [⟨Rect.whole S2048x256, w⟩])) h = w := by
  subst e
  funext x
  have e := View.read_writes_cons_emb (Val := Elt F) (v := (xslot s).view) (f := f) (Rect.whole S2048x256) w [] x
  rw [Rect.emb_whole_apply] at e
  exact e

/-- or of the old rows. -/
theorem load_hslot {off : Fin 3 → Nat} {s : Fin 2} (e : off = slotOff s) (hh) (f : Buf (Elt F) ((hslot s).view.loc (c : Thread nD τ)))
    (w : S2048x128.Idx → Elt F .f32) :
    View.readAt (Elt F) hR.view (Rect.unit (s := S2x2048x128) off S1x2048x128.size hh).toLoadRect
      ((hslot s).view.writes (Elt F) f [⟨Rect.whole S2048x128, w⟩]) = shapeCast S1x2048x128 w shapeCasts_S2048x128_S1x2048x128 := by
  subst e
  have e : shapeCast S2048x128 (View.readAt (Elt F) hR.view (Rect.unit (s := S2x2048x128) (slotOff s) S1x2048x128.size hh).toLoadRect
      ((hslot s).view.writes (Elt F) f [⟨Rect.whole S2048x128, w⟩])) shapeCasts_S1x2048x128_S2048x128 = w := by
    funext x
    have e := View.read_writes_cons_emb (Val := Elt F) (v := (hslot s).view) (f := f) (Rect.whole S2048x128) w [] x
    rw [Rect.emb_whole_apply] at e
    exact e
  exact (shapeCast_shapeCast _ _ _).symm.trans (congrArg (fun z => shapeCast S1x2048x128 z shapeCasts_S2048x128_S1x2048x128) e)

/-- A slot of the new rows reads back what is stored there. -/
theorem read_yslot {off : Fin 3 → Nat} {s : Fin 2} (e : off = slotOff s) (hh) (f : Buf (Elt F) ((yslot s).view.loc (c : Thread nD τ)))
    (w : S1x2048x128.Idx → Elt F .f32) :
    (yslot s).view.read (Elt F) (View.write (Elt F) (yR.access (Rect.unit (s := S2x2048x128) off S1x2048x128.size hh)) f w Finset.univ)
      = shapeCast S2048x128 w shapeCasts_S1x2048x128_S2048x128 := by
  subst e
  funext x
  exact View.read_slice_write_emb (v := yR.view) (Rect.unit (s := S2x2048x128) (slotOff s) S1x2048x128.size hh) f w (Finset.mem_univ _)

/-! ## The block written back -/

/-- Contents a view reads alike agree on its elements. -/
theorem eqOn_of_read {κ : Kind} {sp : Space} {s : Shape} {e : EltTy} {Val : EltTy → Type} (v : View sig κ sp s e) {f g : v.ty.Contents Val}
    (h : v.read Val f = v.read Val g) {i} (hi : i ∈ v.set) : f i = g i := by
  obtain ⟨x, -, rfl⟩ := Finset.mem_map.mp hi
  exact View.eq_of_read_eq (congrFun h x)

/-- Where row `x 0`, column `x 1` of block `b` lies in the array. -/
def blkIx (b : Fin 8) (x : S2048x128.Idx) : S100000x128.Idx := (mblk b).view.emb x

theorem mblk_emb_0 (b : Fin 8) (x : S2048x128.Idx) : (blkIx b x 0).val = 2048 * b.val + (x 0).val := by
  show 0 + 1 * (2048 * b.val + 1 * (x 0).val) = _
  omega
theorem mblk_emb_1 (b : Fin 8) (x : S2048x128.Idx) : (blkIx b x 1).val = (x 1).val := by
  show 0 + 1 * (0 + 1 * (x 1).val) = _
  omega

/-- On block `b` the updated array holds the block's new rows. -/
theorem newRows_emb (v2 : FVec F S384x256 .bf16) (v4 : FVec F S384x128 .bf16) (v6 v8 : FVec F S1x384 .f32)
    (XA : XBuf F c) (A : MBuf F c) (b : Fin 8) (x : S2048x128.Idx) :
    newRows c v2 v4 v6 v8 XA A (blkIx b x) = newBlock c v2 v4 v6 v8 XA A b x := by
  have h0 := mblk_emb_0 b x
  have h1 := mblk_emb_1 b x
  have hx : (x 0).val < 2048 := (x 0).isLt
  have hb := b.isLt
  unfold newRows
  rw [dif_pos (by omega)]
  have hb' : (⟨(blkIx b x 0).val / 2048, by omega⟩ : Fin 8) = b := Fin.ext (by show _ / 2048 = _; omega)
  rw [hb']
  congr 1
  funext a
  match a with
  | ⟨0, _⟩ => exact Fin.ext (by show (blkIx b x 0).val % 2048 = (x 0).val; omega)
  | ⟨1, _⟩ => exact Fin.ext h1

/-- Trip `k`'s write leaves block `k` as the updated array has it. -/
theorem written_block (v2 : FVec F S384x256 .bf16) (v4 : FVec F S384x128 .bf16) (v6 v8 : FVec F S1x384 .f32)
    (XA : XBuf F c) (A : MBuf F c) (b : Fin 8) (f : Buf (Elt F) ((mblk b).view.loc (c : Thread nD τ)))
    (w : S2048x128.Idx → Elt F .f32) (hw : w = newBlock c v2 v4 v6 v8 XA A b) (i) (hi : i ∈ (mblk b).view.set) :
    (mblk b).view.writes (Elt F) f [⟨Rect.whole S2048x128, w⟩] i = newRows c v2 v4 v6 v8 XA A i := by
  have key : (mblk b).view.read (Elt F) ((mblk b).view.writes (Elt F) f [⟨Rect.whole S2048x128, w⟩]) = (mblk b).view.read (Elt F) (newRows c v2 v4 v6 v8 XA A) := by
    funext x
    have e := View.read_writes_cons_emb (Val := Elt F) (v := (mblk b).view) (f := f) (Rect.whole S2048x128) w [] x
    rw [Rect.emb_whole_apply] at e
    refine e.trans ?_
    rw [hw]
    exact (newRows_emb c v2 v4 v6 v8 XA A b x).symm
  exact eqOn_of_read _ key hi

/-- The payload of trip `k`'s write, through its slot, is the block's new rows. -/
theorem payload_eq {s : Fin 2} {o₁ o₂ o₃ : Fin 3 → Nat} (e₁ : o₁ = slotOff s) (e₂ : o₂ = slotOff s) (e₃ : o₃ = slotOff s) (h₁ h₂ h₃)
    (v2 : FVec F S384x256 .bf16) (v4 : FVec F S384x128 .bf16) (v6 v8 : FVec F S1x384 .f32)
    (XA : XBuf F c) (A : MBuf F c) (b : Fin 8) (fx : Buf (Elt F) ((xslot s).view.loc (c : Thread nD τ)))
    (fh : Buf (Elt F) ((hslot s).view.loc (c : Thread nD τ))) (fy : Buf (Elt F) ((yslot s).view.loc (c : Thread nD τ))) :
    ReadAs.same.apply ((yslot s).view.read (Elt F) (View.write (Elt F) (yR.access (Rect.unit (s := S2x2048x128) o₃ S1x2048x128.size h₃)) fy
      (k0_pay2 v2 v4 v6 v8
        (k0_pay1 (View.readAt (Elt F) xR.view (Rect.unit (s := S2x2048x256) o₁ S1x2048x256.size h₁).toLoadRect (xlanded c XA s b fx)))
        (View.readAt (Elt F) hR.view (Rect.unit (s := S2x2048x128) o₂ S1x2048x128.size h₂).toLoadRect (hlanded c A s b fh))) Finset.univ))
      = newBlock c v2 v4 v6 v8 XA A b := by
  have ex := load_xslot c e₁ h₁ fx (ReadAs.same.apply ((xblk b).view.read (Elt F) XA)) shapeCasts_S1x2048x256_S2048x256
  have eh := load_hslot c e₂ h₂ fh (ReadAs.same.apply ((mblk b).view.read (Elt F) A))
  refine (read_yslot c e₃ h₃ fy _).trans ?_
  unfold k0_pay1
  dsimp only [xlanded, hlanded]
  rw [ex, eh]
  rfl

end Cert.Proof.Gru

end
-- ==== Proof.Trip.lean ====
/- One trip of the pipelined loop, in its three forms: the first (no write in flight yet), one in the middle, and the
   last (no block left to fetch). Each starts the next block's fetches, waits for its own, computes the block's new rows,
   starts their write, and waits for the write before it. -/
module

public import proofs.«01_k».proof.Proof.Values

@[expose] public section

noncomputable section

namespace Cert.Proof.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XA : XBuf F c) (OLD : MBuf F c)
  (arg2 : Memref sig .tc .vmem S384x256 .bf16) (harg2 : arg2.IsWhole) (arg3 : Memref sig .tc .vmem S384x128 .bf16) (harg3 : arg3.IsWhole)
  (arg4 : Memref sig .tc .vmem S1x384 .f32) (harg4 : arg4.IsWhole) (arg5 : Memref sig .tc .vmem S1x384 .f32) (harg5 : arg5.IsWhole)
  (arg6 : Memref sig .tc .vmem S16384x1 .f32) (harg6 : arg6.IsWhole)
  (v2 : FVec F S384x256 .bf16) (v4 : FVec F S384x128 .bf16) (v6 v8 : FVec F S1x384 .f32)

/-- The loop's body at trip `k`, on the words it carries then. -/
abbrev tripG (k : Fin k0_t1_loop.trips) (acc : BitVec 32 × BitVec 32 × BitVec 32 × BitVec 32 × BitVec 32 × BitVec 32 × BitVec 32) :=
  k0_t1_body (F := F) xM (Memref.isWhole_whole _) mM (Memref.isWhole_whole _)
    arg2 harg2 arg3 harg3 arg4 harg4 arg5 harg5 arg6 harg6 uM (Memref.isWhole_whole _) mM (Memref.isWhole_whole _) uM (Memref.isWhole_whole _)
    cc0_scratch0 xR (Memref.isWhole_whole _) cc0_scoped1 hR (Memref.isWhole_whole _) cc0_scoped3 yR (Memref.isWhole_whole _) cc0_scoped5 v2 v4 v6 v8 k acc

/-- A slot and its counter, nothing in flight: for the messages, -/
abbrev xfree (s : Fin 2) : sProp 𝕄 := iprop((∃ f, xslotP c s f) ∗ xcell c s)
/-- for the old rows, -/
abbrev hfree (s : Fin 2) : sProp 𝕄 := iprop((∃ f, hslotP c s f) ∗ hcell c s)
/-- for the new rows. -/
abbrev yfree (s : Fin 2) : sProp 𝕄 := iprop((∃ f, yslotP c s f) ∗ ycell c s)

/-- A write in flight whose payload is the block's new rows leaves the block as the updated array has it. -/
theorem yflight_written (s : Fin 2) (b : Fin 8) (w : S2048x128.Idx → Elt F .f32) (f : Buf (Elt F) ((mblk b).view.loc (c : Thread nD τ)))
    (g : Buf (Elt F) ((yslot s).view.loc (c : Thread nD τ))) (hw : w = newBlock c v2 v4 v6 v8 XA OLD b) :
    (Transfers.Flight countersEmb (c : Thread nD τ) (SemLoc.dma (ysem s).sem) () (NY s b)
      iprop(((mblk b).view.loc (c : Thread nD τ) ↦[(mblk b).view.set]{fullShare} (mblk b).view.writes (Elt F) f [⟨Rect.whole S2048x128, w⟩])
        ∗ yslotP c s g) : sProp 𝕄)
    ⊢ iprop(∃ f, yflight c (newRows c v2 v4 v6 v8 XA OLD) s b f) := by
  have e : ((mblk b).view.loc (c : Thread nD τ) ↦[(mblk b).view.set]{fullShare} (mblk b).view.writes (Elt F) f [⟨Rect.whole S2048x128, w⟩] : sProp 𝕄)
      = mP c (newRows c v2 v4 v6 v8 XA OLD) b := pointsTo_congr (written_block c v2 v4 v6 v8 XA OLD b f w hw)
  rw [e]
  iintro H
  iexists g
  iexact H

/-- The carried words before trip `k + 1`, from those trip `k` yields. -/
theorem carried_ext {k : ℕ} {p : BitVec 32 × BitVec 32 × BitVec 32 × BitVec 32 × BitVec 32 × BitVec 32 × BitVec 32} (h : p = carried k)
    (Q : BitVec 32 × BitVec 32 × BitVec 32 × BitVec 32 × BitVec 32 × BitVec 32 × BitVec 32 → sProp 𝕄) : Q (carried k) ⊢ Q p := by
  rw [h]

/-- A trip in the middle: the next block's fetches start, the write before this trip's is waited for. -/
theorem trip_mid (k : Fin k0_t1_loop.trips) (h1 : 1 ≤ k.val) (h7 : k.val < 7) (fx W) (fh) (Q) :
    iprop(xP c XA (Ring.bk 8 (k + 1)) ∗ mP c OLD (Ring.bk 8 (k + 1)) ∗ owes (c : Thread nD τ) 0 W
      ∗ xflight c XA (Ring.sl 2 k) (Ring.bk 8 k) fx ∗ xfree c (Ring.sl 2 (k + 1))
      ∗ hflight c OLD (Ring.sl 2 k) (Ring.bk 8 k) fh ∗ hfree c (Ring.sl 2 (k + 1))
      ∗ yfree c (Ring.sl 2 k) ∗ (∃ f, yflight c (newRows c v2 v4 v6 v8 XA OLD) (Ring.sl 2 (k + 1)) (Ring.bk 8 (k - 1)) f)
      ∗ ((∃ W, owes (c : Thread nD τ) 0 W)
          ∗ (∃ f, xflight c XA (Ring.sl 2 (k + 1)) (Ring.bk 8 (k + 1)) f) ∗ xfree c (Ring.sl 2 k) ∗ xP c XA (Ring.bk 8 k)
          ∗ (∃ f, hflight c OLD (Ring.sl 2 (k + 1)) (Ring.bk 8 (k + 1)) f) ∗ hfree c (Ring.sl 2 k)
          ∗ (∃ f, yflight c (newRows c v2 v4 v6 v8 XA OLD) (Ring.sl 2 k) (Ring.bk 8 k) f) ∗ yfree c (Ring.sl 2 (k + 1))
          ∗ mP c (newRows c v2 v4 v6 v8 XA OLD) (Ring.bk 8 (k - 1))
          -∗ Q (carried (k + 1))))
    ⊢ wp frame (wpE (defs₀ (F := F)) 𝒱₀ (c : Thread nD τ) none) Set.univ
        (tripG arg2 harg2 arg3 harg3 arg4 harg4 arg5 harg5 arg6 harg6 v2 v4 v6 v8 k (carried k)) Q := by
  have hk8 : k.val < 8 := trip_lt k
  have c1 := cond1_true k h7
  have c2 := cond2_true k h7
  have c3 := cond3_true k
  have c4 := cond4_true k
  have c8 := cond8_true k
  have c11 := cond11_true k h1
  have q1 := chk1_holds k
  have q2 := chk2_holds k hk8
  have q3 := chk3_holds k hk8
  have q4 := chk4_holds k hk8
  iintro ⟨Hx, Hm, HW, HXF, ⟨⟨%fx', HXS⟩, HXC⟩, HHF, ⟨⟨%fh', HHS⟩, HHC⟩, ⟨⟨%fy, HYS⟩, HYC⟩, ⟨%fy', HYF⟩, Hk⟩
  dsimp only [tripG]
  sl_unfold [k0_t1_body, carried]
  sl_exec
  sl_step
  iapply (carried_ext (k := k.val + 1) (by simp only [carried, Prod.mk.injEq]; clear * - h1 h7; revert k; decide +kernel) Q)
  iapply Hk
  isplitl [HW]; · iexists _; iexact HW
  isplitl [HXC]; · iexists _; iexact HXC
  isplitl [HXF_dst HXF]
  · isplitl [HXF_dst]
    · iexists _; iexact HXF_dst
    · iexact HXF
  isplitl [HXF_src]; · iexact HXF_src
  isplitl [HHC]; · iexists _; iexact HHC
  isplitl [HHF_dst HHF]
  · isplitl [HHF_dst]
    · iexists _; iexact HHF_dst
    · iexact HHF
  isplitl [HYC]
  · iapply (yflight_written c XA OLD v2 v4 v6 v8 (Ring.sl 2 k) (Ring.bk 8 k) _ _ _
      (payload_eq c (off16_eq k hk8) (off17_eq k hk8) (off18_eq k hk8) _ _ _ v2 v4 v6 v8 XA OLD (Ring.bk 8 k) _ _ _))
    iexact HYC
  isplitl [HYF_src HYF]
  · isplitl [HYF_src]
    · iexists _; iexact HYF_src
    · iexact HYF
  iexact HYF_dst

/-- The first trip: there is no write before it to wait for. -/
theorem trip_first (k : Fin k0_t1_loop.trips) (h1 : k.val < 1) (fx W) (fh) (Q) :
    iprop(xP c XA (Ring.bk 8 (k + 1)) ∗ mP c OLD (Ring.bk 8 (k + 1)) ∗ owes (c : Thread nD τ) 0 W
      ∗ xflight c XA (Ring.sl 2 k) (Ring.bk 8 k) fx ∗ xfree c (Ring.sl 2 (k + 1))
      ∗ hflight c OLD (Ring.sl 2 k) (Ring.bk 8 k) fh ∗ hfree c (Ring.sl 2 (k + 1))
      ∗ yfree c (Ring.sl 2 k)
      ∗ ((∃ W, owes (c : Thread nD τ) 0 W)
          ∗ (∃ f, xflight c XA (Ring.sl 2 (k + 1)) (Ring.bk 8 (k + 1)) f) ∗ xfree c (Ring.sl 2 k) ∗ xP c XA (Ring.bk 8 k)
          ∗ (∃ f, hflight c OLD (Ring.sl 2 (k + 1)) (Ring.bk 8 (k + 1)) f) ∗ hfree c (Ring.sl 2 k)
          ∗ (∃ f, yflight c (newRows c v2 v4 v6 v8 XA OLD) (Ring.sl 2 k) (Ring.bk 8 k) f)
          -∗ Q (carried (k + 1))))
    ⊢ wp frame (wpE (defs₀ (F := F)) 𝒱₀ (c : Thread nD τ) none) Set.univ
        (tripG arg2 harg2 arg3 harg3 arg4 harg4 arg5 harg5 arg6 harg6 v2 v4 v6 v8 k (carried k)) Q := by
  have hk8 : k.val < 8 := trip_lt k
  have h7 : k.val < 7 := by omega
  have c1 := cond1_true k h7
  have c2 := cond2_true k h7
  have c3 := cond3_true k
  have c4 := cond4_true k
  have c8 := cond8_true k
  have c11 := cond11_false k (by omega)
  have q1 := chk1_holds k
  have q2 := chk2_holds k hk8
  have q3 := chk3_holds k hk8
  have q4 := chk4_holds k hk8
  iintro ⟨Hx, Hm, HW, HXF, ⟨⟨%fx', HXS⟩, HXC⟩, HHF, ⟨⟨%fh', HHS⟩, HHC⟩, ⟨⟨%fy, HYS⟩, HYC⟩, Hk⟩
  dsimp only [tripG]
  sl_unfold [k0_t1_body, carried]
  sl_exec
  sl_step
  iapply (carried_ext (k := k.val + 1) (by simp only [carried, Prod.mk.injEq]; clear * - h1; revert k; decide +kernel) Q)
  iapply Hk
  isplitl [HW]; · iexists _; iexact HW
  isplitl [HXC]; · iexists _; iexact HXC
  isplitl [HXF_dst HXF]
  · isplitl [HXF_dst]
    · iexists _; iexact HXF_dst
    · iexact HXF
  isplitl [HXF_src]; · iexact HXF_src
  isplitl [HHC]; · iexists _; iexact HHC
  isplitl [HHF_dst HHF]
  · isplitl [HHF_dst]
    · iexists _; iexact HHF_dst
    · iexact HHF
  iapply (yflight_written c XA OLD v2 v4 v6 v8 (Ring.sl 2 k) (Ring.bk 8 k) _ _ _
      (payload_eq c (off16_eq k hk8) (off17_eq k hk8) (off18_eq k hk8) _ _ _ v2 v4 v6 v8 XA OLD (Ring.bk 8 k) _ _ _))
  iexact HYC

/-- The last trip: there is no block left to fetch. -/
theorem trip_last (k : Fin k0_t1_loop.trips) (h7 : ¬ k.val < 7) (fx W) (fh) (Q) :
    iprop(owes (c : Thread nD τ) 0 W
      ∗ xflight c XA (Ring.sl 2 k) (Ring.bk 8 k) fx ∗ hflight c OLD (Ring.sl 2 k) (Ring.bk 8 k) fh
      ∗ yfree c (Ring.sl 2 k) ∗ (∃ f, yflight c (newRows c v2 v4 v6 v8 XA OLD) (Ring.sl 2 (k + 1)) (Ring.bk 8 (k - 1)) f)
      ∗ ((∃ W, owes (c : Thread nD τ) 0 W)
          ∗ xfree c (Ring.sl 2 k) ∗ xP c XA (Ring.bk 8 k) ∗ hfree c (Ring.sl 2 k)
          ∗ (∃ f, yflight c (newRows c v2 v4 v6 v8 XA OLD) (Ring.sl 2 k) (Ring.bk 8 k) f) ∗ yfree c (Ring.sl 2 (k + 1))
          ∗ mP c (newRows c v2 v4 v6 v8 XA OLD) (Ring.bk 8 (k - 1))
          -∗ Q (carried (k + 1))))
    ⊢ wp frame (wpE (defs₀ (F := F)) 𝒱₀ (c : Thread nD τ) none) Set.univ
        (tripG arg2 harg2 arg3 harg3 arg4 harg4 arg5 harg5 arg6 harg6 v2 v4 v6 v8 k (carried k)) Q := by
  have hk8 : k.val < 8 := trip_lt k
  have h1 : 1 ≤ k.val := by omega
  have c1 := cond1_false k h7
  have c2 := cond2_false k h7
  have c3 := cond3_true k
  have c4 := cond4_true k
  have c8 := cond8_true k
  have c11 := cond11_true k h1
  have q1 := chk1_holds k
  have q2 := chk2_holds k hk8
  have q3 := chk3_holds k hk8
  have q4 := chk4_holds k hk8
  iintro ⟨HW, HXF, HHF, ⟨⟨%fy, HYS⟩, HYC⟩, ⟨%fy', HYF⟩, Hk⟩
  dsimp only [tripG]
  sl_unfold [k0_t1_body, carried]
  sl_exec
  sl_step
  iapply (carried_ext (k := k.val + 1) (by simp only [carried, Prod.mk.injEq]; clear * - h7; revert k; decide +kernel) Q)
  iapply Hk
  isplitl [HW]; · iexists _; iexact HW
  isplitl [HXF_dst HXF]
  · isplitl [HXF_dst]
    · iexists _; iexact HXF_dst
    · iexact HXF
  isplitl [HXF_src]; · iexact HXF_src
  isplitl [HHF_dst HHF]
  · isplitl [HHF_dst]
    · iexists _; iexact HHF_dst
    · iexact HHF
  isplitl [HYC]
  · iapply (yflight_written c XA OLD v2 v4 v6 v8 (Ring.sl 2 k) (Ring.bk 8 k) _ _ _
      (payload_eq c (off16_eq k hk8) (off17_eq k hk8) (off18_eq k hk8) _ _ _ v2 v4 v6 v8 XA OLD (Ring.bk 8 k) _ _ _))
    iexact HYC
  isplitl [HYF_src HYF]
  · isplitl [HYF_src]
    · iexists _; iexact HYF_src
    · iexact HYF
  iexact HYF_dst

end Cert.Proof.Gru

end
-- ==== Proof.Loop.lean ====
/- The pipelined loop's invariant: before trip `k` block `k` of the messages and of the old rows is in flight (while there
   is one), block `k - 1` of the new rows is on its way back (once there is one), every other slot is free, and every other
   block is home, updated before `k - 1` and as it was from `k + 1` on. -/
module

public import proofs.«01_k».proof.Proof.Trip

@[expose] public section

noncomputable section

namespace Cert.Proof.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Blocks home -/

/-- The blocks from `k + 1` on are block `k + 1` and those after it; -/
theorem home_next (Φ : Fin 8 → sProp 𝕄) (k : ℕ) (h : k + 1 < 8) :
    bigSep (Ring.rangeSet 8 (k + 1) 8) Φ = iprop(Φ (Ring.bk 8 (k + 1)) ∗ bigSep (Ring.rangeSet 8 (k + 1 + 1) 8) Φ) := by
  rw [Ring.bk_eq_mk h]; exact Ring.bigSep_rangeSet_head h h

/-- the blocks before `k` are block `k - 1` and those before it. -/
theorem home_back (Φ : Fin 8 → sProp 𝕄) (k : ℕ) (h : 1 ≤ k) (h8 : k ≤ 8) :
    bigSep (Ring.rangeSet 8 0 k) Φ = iprop(Φ (Ring.bk 8 (k - 1)) ∗ bigSep (Ring.rangeSet 8 0 (k - 1)) Φ) := by
  rw [Ring.bk_eq_mk (show k - 1 < 8 by omega)]; exact Ring.bigSep_rangeSet_last h h8

variable (c : Dev nD) (XA : XBuf F c) (OLD : MBuf F c)
  (arg2 : Memref sig .tc .vmem S384x256 .bf16) (harg2 : arg2.IsWhole) (arg3 : Memref sig .tc .vmem S384x128 .bf16) (harg3 : arg3.IsWhole)
  (arg4 : Memref sig .tc .vmem S1x384 .f32) (harg4 : arg4.IsWhole) (arg5 : Memref sig .tc .vmem S1x384 .f32) (harg5 : arg5.IsWhole)
  (arg6 : Memref sig .tc .vmem S16384x1 .f32) (harg6 : arg6.IsWhole)
  (v2 : FVec F S384x256 .bf16) (v4 : FVec F S384x128 .bf16) (v6 v8 : FVec F S1x384 .f32)

/-- A slot at rest, as one resource: the messages', -/
@[irreducible] def xidle (s : Fin 2) (f : Buf (Elt F) ((xslot s).view.loc (c : Thread nD τ))) : sProp 𝕄 := iprop(xslotP c s f ∗ xcell c s)
/-- the old rows', -/
@[irreducible] def hidle (s : Fin 2) (f : Buf (Elt F) ((hslot s).view.loc (c : Thread nD τ))) : sProp 𝕄 := iprop(hslotP c s f ∗ hcell c s)
/-- the new rows'. -/
@[irreducible] def yidle (s : Fin 2) (f : Buf (Elt F) ((yslot s).view.loc (c : Thread nD τ))) : sProp 𝕄 := iprop(yslotP c s f ∗ ycell c s)

/-- A slot at rest is the slot and its counter. -/
theorem xidle_of (s : Fin 2) : xfree (F := F) c s ⊢ iprop(∃ f, xidle c s f) := by
  unfold xidle; iintro ⟨⟨%f, H⟩, HC⟩; iexists f; iframe H HC
theorem of_xidle (s : Fin 2) : iprop(∃ f, xidle c s f) ⊢ xfree (F := F) c s := by
  unfold xidle; iintro ⟨%f, H, HC⟩; iframe HC; iexists f; iexact H
theorem hidle_of (s : Fin 2) : hfree (F := F) c s ⊢ iprop(∃ f, hidle c s f) := by
  unfold hidle; iintro ⟨⟨%f, H⟩, HC⟩; iexists f; iframe H HC
theorem of_hidle (s : Fin 2) : iprop(∃ f, hidle c s f) ⊢ hfree (F := F) c s := by
  unfold hidle; iintro ⟨%f, H, HC⟩; iframe HC; iexists f; iexact H
theorem yidle_of (s : Fin 2) : yfree (F := F) c s ⊢ iprop(∃ f, yidle c s f) := by
  unfold yidle; iintro ⟨⟨%f, H⟩, HC⟩; iexists f; iframe H HC
theorem of_yidle (s : Fin 2) : iprop(∃ f, yidle c s f) ⊢ yfree (F := F) c s := by
  unfold yidle; iintro ⟨%f, H, HC⟩; iframe HC; iexists f; iexact H

/-- What is held before trip `k`. -/
abbrev resAt (k : ℕ) : sProp 𝕄 :=
  iprop((∃ W, owes (c : Thread nD τ) 0 W)
    ∗ Ring.roleAt iprop(∃ f, xidle c (Ring.sl 2 k) f) (fun b => iprop(∃ f, xflight c XA (Ring.sl 2 k) b f)) k
    ∗ xfree c (Ring.sl 2 (k + 1))
    ∗ Ring.roleAt iprop(∃ f, hidle c (Ring.sl 2 k) f) (fun b => iprop(∃ f, hflight c OLD (Ring.sl 2 k) b f)) k
    ∗ hfree c (Ring.sl 2 (k + 1))
    ∗ yfree c (Ring.sl 2 k)
    ∗ Ring.roleBAt 1 iprop(∃ f, yidle c (Ring.sl 2 (k + 1)) f) (fun b => iprop(∃ f, yflight c (newRows c v2 v4 v6 v8 XA OLD) (Ring.sl 2 (k + 1)) b f)) k
    ∗ bigSep (Ring.rangeSet 8 0 k) (xP c XA) ∗ bigSep (Ring.rangeSet 8 (k + 1) 8) (xP c XA)
    ∗ bigSep (Ring.rangeSet 8 0 (k - 1)) (mP c (newRows c v2 v4 v6 v8 XA OLD)) ∗ bigSep (Ring.rangeSet 8 (k + 1) 8) (mP c OLD))

/-- One trip keeps it. -/
theorem trip_inv (k : Fin k0_t1_loop.trips) :
    resAt c XA OLD v2 v4 v6 v8 k
    ⊢ wp frame (wpE (defs₀ (F := F)) 𝒱₀ (c : Thread nD τ) none) Set.univ
        (tripG arg2 harg2 arg3 harg3 arg4 harg4 arg5 harg5 arg6 harg6 v2 v4 v6 v8 k (carried k)) (fun acc => iprop(⌜acc = carried (k + 1)⌝ ∗ resAt c XA OLD v2 v4 v6 v8 (k + 1))) := by
  have hk8 : k.val < 8 := trip_lt k
  have hsl : Ring.sl 2 (k.val + 1 + 1) = Ring.sl 2 k.val := Ring.sl_succ_add 2 k.val 1 rfl
  dsimp only [resAt]
  rw [Ring.roleAt_of_lt _ _ k.val hk8, Ring.roleAt_of_lt _ _ k.val hk8, Ring.roleBAt_of_le _ _ _ (k.val + 1) (by omega), hsl, Nat.add_sub_cancel,
    home_back (xP c XA) (k.val + 1) (by omega) (by omega), Nat.add_sub_cancel]
  by_cases h7 : k.val < 7
  · rw [Ring.roleAt_of_lt _ _ (k.val + 1) (by omega), Ring.roleAt_of_lt _ _ (k.val + 1) (by omega), home_next (xP c XA) k.val (by omega),
      home_next (mP c OLD) k.val (by omega)]
    by_cases h1 : 1 ≤ k.val
    · -- in the middle
      rw [Ring.roleBAt_of_le _ _ _ k.val h1, home_back (mP c (newRows c v2 v4 v6 v8 XA OLD)) k.val h1 (by omega)]
      iintro ⟨⟨%W, HW⟩, ⟨%fx, HX⟩, HXo, ⟨%fh, HH⟩, HHo, HY, HYb, HxL, ⟨Hx, HxR⟩, HmL, ⟨Hm, HmR⟩⟩
      iapply (trip_mid c XA OLD arg2 harg2 arg3 harg3 arg4 harg4 arg5 harg5 arg6 harg6 v2 v4 v6 v8 k h1 h7 fx W fh)
      iframe Hx Hm HW HX HXo HH HHo HY HYb
      iintro ⟨HW, HX, HXo, Hx, HH, HHo, HYb, HY, Hm⟩
      iframe HW HX HXo HH HHo HYb HY Hx HxL HxR Hm HmL HmR
      ipureintro; rfl
    · -- the first
      have h0 : k.val = 0 := by omega
      rw [Ring.roleBAt_of_lt _ _ _ k.val (by omega), Ring.bigSep_rangeSet_empty (Φ := mP c (newRows c v2 v4 v6 v8 XA OLD)) (show k.val ≤ 0 by omega)]
      iintro ⟨⟨%W, HW⟩, ⟨%fx, HX⟩, HXo, ⟨%fh, HH⟩, HHo, HY, HYb, HxL, ⟨Hx, HxR⟩, HmL, ⟨Hm, HmR⟩⟩
      iapply (trip_first c XA OLD arg2 harg2 arg3 harg3 arg4 harg4 arg5 harg5 arg6 harg6 v2 v4 v6 v8 k (by omega) fx W fh)
      iframe Hx Hm HW HX HXo HH HHo HY
      iintro ⟨HW, HX, HXo, Hx, HH, HHo, HY⟩
      ihave HYb := (of_yidle c (Ring.sl 2 (k.val + 1))) $$ HYb
      iframe HW HX HXo HH HHo HYb HY Hx HxL HxR HmR
      ipureintro; rfl
  · -- the last
    have h1 : 1 ≤ k.val := by omega
    rw [Ring.roleAt_of_le _ _ (k.val + 1) (by omega), Ring.roleAt_of_le _ _ (k.val + 1) (by omega),
      Ring.roleBAt_of_le _ _ _ k.val h1, home_back (mP c (newRows c v2 v4 v6 v8 XA OLD)) k.val h1 (by omega),
      Ring.bigSep_rangeSet_empty (Φ := xP c XA) (show 8 ≤ k.val + 1 by omega), Ring.bigSep_rangeSet_empty (Φ := xP c XA) (show 8 ≤ k.val + 1 + 1 by omega),
      Ring.bigSep_rangeSet_empty (Φ := mP c OLD) (show 8 ≤ k.val + 1 by omega), Ring.bigSep_rangeSet_empty (Φ := mP c OLD) (show 8 ≤ k.val + 1 + 1 by omega)]
    iintro ⟨⟨%W, HW⟩, ⟨%fx, HX⟩, HXo, ⟨%fh, HH⟩, HHo, HY, HYb, HxL, HxR, HmL, HmR⟩
    iapply (trip_last c XA OLD arg2 harg2 arg3 harg3 arg4 harg4 arg5 harg5 arg6 harg6 v2 v4 v6 v8 k h7 fx W fh)
    iframe HW HX HH HY HYb
    iintro ⟨HW, HXo', Hx, HHo', HYb, HY, Hm⟩
    ihave HXo := (xidle_of c (Ring.sl 2 (k.val + 1))) $$ HXo
    ihave HHo := (hidle_of c (Ring.sl 2 (k.val + 1))) $$ HHo
    iframe HW HXo HXo' HHo HHo' HYb HY Hx HxL HxR HmR Hm HmL
    ipureintro; rfl

set_option warn.classDefReducibility false in
/-- The invariant as the run through the loop takes it. -/
@[sl_loop] def loopInv (init : BitVec 32 × BitVec 32 × BitVec 32 × BitVec 32 × BitVec 32 × BitVec 32 × BitVec 32) :
    LoopInvTy_k0_t1 (F := F) Unit ℕ (UU nD τ) ℕ 𝒱₀ c none Set.univ xM (Memref.isWhole_whole _) mM (Memref.isWhole_whole _)
      arg2 harg2 arg3 harg3 arg4 harg4 arg5 harg5 arg6 harg6 uM (Memref.isWhole_whole _) mM (Memref.isWhole_whole _) uM (Memref.isWhole_whole _)
      cc0_scratch0 xR (Memref.isWhole_whole _) cc0_scoped1 hR (Memref.isWhole_whole _) cc0_scoped3 yR (Memref.isWhole_whole _) cc0_scoped5 v2 v4 v6 v8 init where
  inv k acc := iprop(⌜acc = carried k⌝ ∗ resAt c XA OLD v2 v4 v6 v8 k)
  step k acc := by
    iintro ⟨%hacc, H⟩
    rw [hacc]
    iapply (trip_inv c XA OLD arg2 harg2 arg3 harg3 arg4 harg4 arg5 harg5 arg6 harg6 v2 v4 v6 v8 k)
    iexact H

end Cert.Proof.Gru

end
-- ==== Proof.Body.lean ====
/- The kernel body, run once: the last-update column's transfer starts, the weights are loaded, block 0 of the messages and
   of the old rows is fetched, the loop runs by its invariant, the last block's write and the column's transfer are
   awaited. It leaves every block of the memory array updated and the column overwritten. -/
module

public import proofs.«01_k».proof.Proof.Loop

@[expose] public section

noncomputable section

namespace Cert.Proof.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XA : XBuf F c) (OLD : MBuf F c)
  (arg2 : Memref sig .tc .vmem S384x256 .bf16) (harg2 : arg2.IsWhole) (arg3 : Memref sig .tc .vmem S384x128 .bf16) (harg3 : arg3.IsWhole)
  (arg4 : Memref sig .tc .vmem S1x384 .f32) (harg4 : arg4.IsWhole) (arg5 : Memref sig .tc .vmem S1x384 .f32) (harg5 : arg5.IsWhole)
  (arg6 : Memref sig .tc .vmem S16384x1 .f32) (harg6 : arg6.IsWhole)

/-- The body on its five staged operands, the arrays, the slots and the counters its own. -/
abbrev bodyG : Prog (TpuEff nD τ sig (Elt F) Λ₀ .tc) PUnit :=
  cc0__gru_body xM (Memref.isWhole_whole _) mM (Memref.isWhole_whole _)
    arg2 harg2 arg3 harg3 arg4 harg4 arg5 harg5 arg6 harg6 uM (Memref.isWhole_whole _) mM (Memref.isWhole_whole _) uM (Memref.isWhole_whole _)
    cc0_scratch0 xR (Memref.isWhole_whole _) cc0_scoped1 hR (Memref.isWhole_whole _) cc0_scoped3 yR (Memref.isWhole_whole _) cc0_scoped5

/-- The weights the body loads. -/
abbrev w2Of (g : Buf (Elt F) (arg2.view.loc (c : Thread nD τ))) : FVec F S384x256 .bf16 :=
  k0_pay3 (arg2.view.readAt (Elt F) (Rect.unit (s := S384x256) ![0, 0] S384x256.size inb_S384x256_S384x256_0_0).toLoadRect g)
abbrev w3Of (g : Buf (Elt F) (arg3.view.loc (c : Thread nD τ))) : FVec F S384x128 .bf16 :=
  k0_pay4 (arg3.view.readAt (Elt F) (Rect.unit (s := S384x128) ![0, 0] S384x128.size inb_S384x128_S384x128_0_0).toLoadRect g)
abbrev w4Of (g : Buf (Elt F) (arg4.view.loc (c : Thread nD τ))) : FVec F S1x384 .f32 :=
  k0_pay5 (arg4.view.readAt (Elt F) (Rect.unit (s := S1x384) ![0, 0] S1x384.size inb_S1x384_S1x384_0_0).toLoadRect g)
abbrev w5Of (g : Buf (Elt F) (arg5.view.loc (c : Thread nD τ))) : FVec F S1x384 .f32 :=
  k0_pay6 (arg5.view.readAt (Elt F) (Rect.unit (s := S1x384) ![0, 0] S1x384.size inb_S1x384_S1x384_0_0).toLoadRect g)

abbrev UBuf (F : FTy → Type) [FloatOps F] (c : Dev nD) := Buf (Elt F) (uM.view.loc (c : Thread nD τ))
/-- The last-update column's first 16384 entries. -/
abbrev uP (A : UBuf F c) : sProp 𝕄 := uTop.view.loc (c : Thread nD τ) ↦[uTop.view.set]{fullShare} A
abbrev ucell : sProp 𝕄 := semVal ((c : Thread nD τ), SemLoc.dma (cc0_scratch0).sem) 0

-- the prologue's slots and blocks are the invariant's before trip 0
theorem sl2_0 : Ring.sl 2 0 = 0 := Fin.ext (by rfl)
theorem sl2_1 : Ring.sl 2 (0 + 1) = 1 := Fin.ext (by rfl)
theorem bk8_0 : Ring.bk 8 0 = 0 := Fin.ext (by rfl)

variable (g2 : Buf (Elt F) (arg2.view.loc (c : Thread nD τ))) (g3 : Buf (Elt F) (arg3.view.loc (c : Thread nD τ)))
  (g4 : Buf (Elt F) (arg4.view.loc (c : Thread nD τ))) (g5 : Buf (Elt F) (arg5.view.loc (c : Thread nD τ)))
  (g6 : Buf (Elt F) (arg6.view.loc (c : Thread nD τ))) (U : UBuf F c)

/-- The five staged operands at their contents. -/
abbrev operands : sProp 𝕄 :=
  iprop((arg2.view.loc (c : Thread nD τ) ↦[arg2.view.set]{fullShare} g2) ∗ (arg3.view.loc (c : Thread nD τ) ↦[arg3.view.set]{fullShare} g3)
    ∗ (arg4.view.loc (c : Thread nD τ) ↦[arg4.view.set]{fullShare} g4) ∗ (arg5.view.loc (c : Thread nD τ) ↦[arg5.view.set]{fullShare} g5)
    ∗ (arg6.view.loc (c : Thread nD τ) ↦[arg6.view.set]{fullShare} g6))

/-- The column as the body leaves it: its first 16384 entries the staged column's. -/
abbrev newCol : UBuf F c := uTop.view.writes (Elt F) U [⟨Rect.whole S16384x1, ReadAs.same.apply (arg6.view.read (Elt F) g6)⟩]

/-- Block 0, which the prologue fetches, apart from the rest. -/
theorem first_apart (Φ : Fin 8 → sProp 𝕄) : bigSep Finset.univ Φ ⊢ iprop(Φ 0 ∗ bigSep (Ring.rangeSet 8 (0 + 1) 8) Φ) := by
  rw [← Ring.rangeSet_univ, Ring.bigSep_rangeSet_head (show 0 < 8 by omega) (by omega)]
  exact .rfl

/-! ## After the last trip -/

theorem x_last (T : ℕ) (hT : T = 8) (f) : xidle c (Ring.sl 2 T) f ⊢ xfree (F := F) c 0 := by
  subst hT; iintro H; iapply (of_xidle c 0); iexists f; iexact H
theorem h_last (T : ℕ) (hT : T = 8) (f) : hidle c (Ring.sl 2 T) f ⊢ hfree (F := F) c 0 := by
  subst hT; iintro H; iapply (of_hidle c 0); iexists f; iexact H
theorem x_other (T : ℕ) (hT : T = 8) (f) : iprop(xslotP c (Ring.sl 2 (T + 1)) f ∗ xcell c (Ring.sl 2 (T + 1))) ⊢ xfree (F := F) c 1 := by
  subst hT; iintro ⟨H, HC⟩; isplitl [H]
  · iexists f; iexact H
  · iexact HC
theorem h_other (T : ℕ) (hT : T = 8) (f) : iprop(hslotP c (Ring.sl 2 (T + 1)) f ∗ hcell c (Ring.sl 2 (T + 1))) ⊢ hfree (F := F) c 1 := by
  subst hT; iintro ⟨H, HC⟩; isplitl [H]
  · iexists f; iexact H
  · iexact HC
theorem y_last (T : ℕ) (hT : T = 8) (f) : iprop(yslotP c (Ring.sl 2 T) f ∗ ycell c (Ring.sl 2 T)) ⊢ yfree (F := F) c 0 := by
  subst hT; iintro ⟨H, HC⟩; isplitl [H]
  · iexists f; iexact H
  · iexact HC
theorem y_other (T : ℕ) (hT : T = 8) (f) : iprop(yslotP c (Ring.sl 2 (T + 1)) f ∗ ycell c 1) ⊢ yfree (F := F) c 1 := by
  subst hT; iintro ⟨H, HC⟩; isplitl [H]
  · iexists f; iexact H
  · iexact HC
theorem all_home (Φ : Fin 8 → sProp 𝕄) (T : ℕ) (hT : T = 8) : bigSep (Ring.rangeSet 8 0 T) Φ ⊢ bigSep Finset.univ Φ := by
  subst hT; rw [Ring.rangeSet_univ]
theorem all_written (Φ : Fin 8 → sProp 𝕄) (T : ℕ) (hT : T = 8) :
    iprop(Φ (Ring.bk 8 (T - 1)) ∗ bigSep (Ring.rangeSet 8 0 (T - 1)) Φ) ⊢ bigSep Finset.univ Φ := by
  subst hT; rw [← home_back Φ 8 (by omega) le_rfl, Ring.rangeSet_univ]

attribute [local sl_canon] sl2_0 sl2_1 bk8_0 in
/-- The body, run once. -/
theorem bodyRun (W) (Q : PUnit → sProp 𝕄) :
    iprop(operands c arg2 arg3 arg4 arg5 arg6 g2 g3 g4 g5 g6
      ∗ uP c U ∗ ucell c ∗ owes (c : Thread nD τ) 0 W
      ∗ bigSep Finset.univ (xP c XA) ∗ bigSep Finset.univ (mP c OLD)
      ∗ xfree c 0 ∗ xfree c 1 ∗ hfree c 0 ∗ hfree c 1 ∗ yfree c 0 ∗ yfree c 1
      ∗ (operands c arg2 arg3 arg4 arg5 arg6 g2 g3 g4 g5 g6
          ∗ uP c (newCol c arg6 g6 U) ∗ ucell c ∗ (∃ W, owes (c : Thread nD τ) 0 W)
          ∗ bigSep Finset.univ (xP c XA)
          ∗ bigSep Finset.univ (mP c (newRows c (w2Of c arg2 g2) (w3Of c arg3 g3) (w4Of c arg4 g4) (w5Of c arg5 g5) XA OLD))
          ∗ xfree c 0 ∗ xfree c 1 ∗ hfree c 0 ∗ hfree c 1 ∗ yfree c 0 ∗ yfree c 1 -∗ Q ⟨⟩))
      ⊢ wp frame (wpE (defs₀ (F := F)) 𝒱₀ (c : Thread nD τ) none) Set.univ (bodyG arg2 harg2 arg3 harg3 arg4 harg4 arg5 harg5 arg6 harg6) Q := by
  iintro ⟨⟨H2, H3, H4, H5, H6⟩, HU, HUC, HW, Hx, Hm, ⟨⟨%fx0, HX0⟩, HXC0⟩, ⟨⟨%fx1, HX1⟩, HXC1⟩, ⟨⟨%fh0, HH0⟩, HHC0⟩, ⟨⟨%fh1, HH1⟩, HHC1⟩,
    ⟨⟨%fy0, HY0⟩, HYC0⟩, HY1, Hk⟩
  ihave Hx := (first_apart (xP c XA)) $$ Hx
  icases Hx with ⟨Hx0, HxR⟩
  ihave Hm := (first_apart (mP c OLD)) $$ Hm
  icases Hm with ⟨Hm0, HmR⟩
  ihave HY1 := (yidle_of c 1) $$ HY1
  icases HY1 with ⟨%fy1, HY1⟩
  have eX : (iprop(emp) : sProp 𝕄) = bigSep (Ring.rangeSet 8 0 0) (xP c XA) := (Ring.bigSep_rangeSet_empty le_rfl).symm
  have eM : (iprop(emp) : sProp 𝕄) = bigSep (Ring.rangeSet 8 0 (0 - 1)) (mP c (newRows c (w2Of c arg2 g2) (w3Of c arg3 g3) (w4Of c arg4 g4) (w5Of c arg5 g5) XA OLD)) := (Ring.bigSep_rangeSet_empty le_rfl).symm
  ihave HxL : bigSep (Ring.rangeSet 8 0 0) (xP c XA) $$ []
  · iapply (Entails.of_eq eX); iempintro
  ihave HmL : bigSep (Ring.rangeSet 8 0 (0 - 1)) (mP c (newRows c (w2Of c arg2 g2) (w3Of c arg3 g3) (w4Of c arg4 g4) (w5Of c arg5 g5) XA OLD)) $$ []
  · iapply (Entails.of_eq eM); iempintro
  sl_exec
  sl_step
  iapply Hk
  have hT : Scf.trips k0_t1_loop.lb k0_t1_loop.ub k0_t1_loop.st = 8 := trips_eq
  isplitl [H2 H3 H4 H5 H6]
  · isplitl [H2]; · iexact H2
    isplitl [H3]; · iexact H3
    isplitl [H4]; · iexact H4
    isplitl [H5]; · iexact H5
    iexact H6
  isplitl [HU]; · iexact HU
  isplitl [HUC]; · iexact HUC
  isplitl [HW]; · iexists _; iexact HW
  isplitl [HxL]; · iapply (all_home (xP c XA) _ hT); iexact HxL
  isplitl [HmL HY1_dst]
  · iapply (all_written (mP c (newRows c (w2Of c arg2 g2) (w3Of c arg3 g3) (w4Of c arg4 g4) (w5Of c arg5 g5) XA OLD)) _ hT)
    isplitl [HY1_dst]; · iexact HY1_dst
    iexact HmL
  isplitl [HXC0]; · iapply (x_last c _ hT); iexact HXC0
  isplitl [HX1 HXC1]
  · iapply (x_other c _ hT)
    isplitl [HX1]; · iexact HX1
    iexact HXC1
  isplitl [HHC0]; · iapply (h_last c _ hT); iexact HHC0
  isplitl [HH1 HHC1]
  · iapply (h_other c _ hT)
    isplitl [HH1]; · iexact HH1
    iexact HHC1
  isplitl [HY0 HYC0]
  · iapply (y_last c _ hT)
    isplitl [HY0]; · iexact HY0
    iexact HYC0
  iapply (y_other c _ hT)
  isplitl [HY1_src]; · iexact HY1_src
  iexact HY1

end Cert.Proof.Gru

end
-- ==== Proof.Split.lean ====
/- How the launch's whole buffers come apart into what the kernel moves about, and back together: the messages and the
   memory array into blocks and a remainder, the column into its first 16384 entries and the others, each double buffer
   into two slots. -/
module

public import proofs.«01_k».proof.Proof.Body

@[expose] public section

noncomputable section

namespace Cert.Proof.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)

/-! ## Disjointness -/

/-- An element of a view is where the view puts some index. -/
theorem mem_view {κ : Kind} {sp : Space} {s : Shape} {e : EltTy} {v : View sig κ sp s e} {i : v.ty.Idx} (h : i ∈ v.set) : ∃ x, v.emb x = i := by
  obtain ⟨x, -, rfl⟩ := Finset.mem_map.mp h
  exact ⟨x, rfl⟩
theorem view_mem {κ : Kind} {sp : Space} {s : Shape} {e : EltTy} (v : View sig κ sp s e) (x : s.Idx) : v.emb x ∈ v.set :=
  Finset.mem_map.mpr ⟨x, Finset.mem_univ _, rfl⟩

abbrev mSet (b : Fin 8) : Finset S100000x128.Idx := (mblk b).view.set
abbrev xSet (b : Fin 8) : Finset S16384x256.Idx := (Rect.unit (s := S16384x256) (blkOff b) S2048x256.size (xblk_inb b)).set
abbrev uSet : Finset S100000x1.Idx := uTop.view.set
abbrev xsSet (s : Fin 2) : Finset S2x2048x256.Idx := (Rect.unit (s := S2x2048x256) (slotOff s) S1x2048x256.size (xslot_inb s)).set
abbrev hsSet (s : Fin 2) : Finset S2x2048x128.Idx := (Rect.unit (s := S2x2048x128) (slotOff s) S1x2048x128.size (hslot_inb s)).set

theorem mSet_row {b : Fin 8} {i : S100000x128.Idx} (h : i ∈ mSet b) : 2048 * b.val ≤ (i 0).val ∧ (i 0).val < 2048 * b.val + 2048 := by
  obtain ⟨x, e'⟩ : ∃ x, blkIx b x = i := mem_view (v := (mblk b).view) h
  have h0 := mblk_emb_0 b x
  have hx : (x 0).val < 2048 := (x 0).isLt
  rw [e'] at h0
  omega
theorem mSet_of_row {i : S100000x128.Idx} (h : (i 0).val < 16384) : ∃ b, i ∈ mSet b := by
  let b : Fin 8 := ⟨(i 0).val / 2048, by omega⟩
  let x : S2048x128.Idx := ix2 (n0 := 2048) (n1 := 128) ⟨(i 0).val % 2048, by omega⟩ (i 1)
  have e : blkIx b x = i := by
    have h0 := mblk_emb_0 b x
    have h1 := mblk_emb_1 b x
    funext a
    match a with
    | ⟨0, _⟩ => exact Fin.ext (h0.trans (Nat.div_add_mod _ _))
    | ⟨1, _⟩ => exact Fin.ext h1
  exact ⟨b, by rw [← e]; exact view_mem (mblk b).view x⟩
theorem mSet_disjoint (b b' : Fin 8) (h : b ≠ b') : Disjoint (mSet b) (mSet b') :=
  Finset.disjoint_left.mpr fun i hi hi' => h (Fin.ext (by have := mSet_row hi; have := mSet_row hi'; omega))
theorem xSet_disjoint (b b' : Fin 8) (h : b ≠ b') : Disjoint (xSet b) (xSet b') :=
  Ring.lead_disjoint (s := S16384x256) 0 2048 blkOff S2048x256.size xblk_inb (fun _ => rfl) rfl b b' h
theorem xsSet_disjoint (s s' : Fin 2) (h : s ≠ s') : Disjoint (xsSet s) (xsSet s') :=
  Ring.lead_disjoint (s := S2x2048x256) 0 1 slotOff S1x2048x256.size xslot_inb (fun s => (Nat.one_mul _).symm) rfl s s' h
theorem hsSet_disjoint (s s' : Fin 2) (h : s ≠ s') : Disjoint (hsSet s) (hsSet s') :=
  Ring.lead_disjoint (s := S2x2048x128) 0 1 slotOff S1x2048x128.size hslot_inb (fun s => (Nat.one_mul _).symm) rfl s s' h

theorem xblk_set (b : Fin 8) : (xblk b).view.set = xSet b := View.set_slice_whole _ _
theorem xslot_set (s : Fin 2) : (xslot s).view.set = xsSet s := (View.set_reshape _ _).trans (View.set_slice_whole _ _)
theorem hslot_set (s : Fin 2) : (hslot s).view.set = hsSet s := (View.set_reshape _ _).trans (View.set_slice_whole _ _)
theorem yslot_set (s : Fin 2) : (yslot s).view.set = hsSet s := (View.set_reshape _ _).trans (View.set_slice_whole _ _)

/-! ## The arrays in HBM -/

/-- A buffer whole is the blocks of a disjoint family and what lies outside them. -/
theorem blocks_and_rest {ℓ : Loc nD τ sig} (I : Fin 8 → Finset (Idx ℓ)) (hd : ∀ b b', b ≠ b' → Disjoint (I b) (I b')) (f : Buf (Elt F) ℓ) :
    (ℓ ↦{fullShare} f : sProp 𝕄)
      ⊣⊢ iprop((bigSep Finset.univ fun b => ℓ ↦[I b]{fullShare} f) ∗ ℓ ↦[Finset.univ \ Finset.univ.biUnion I]{fullShare} f) := by
  rw [← pointsTo_biUnion Finset.univ I (fun b _ b' _ h => hd b b' h)]
  exact pointsTo_split_subset (Finset.subset_univ _)

theorem xP_eq (XA : XBuf F c) (b : Fin 8) : (xP c XA b : sProp 𝕄) = (xM.view.loc (c : Thread nD τ) ↦[xSet b]{fullShare} XA) :=
  congrArg (fun S => (_ ↦[S]{fullShare} XA : sProp 𝕄)) (xblk_set b)

/-- What of the messages lies in no block. -/
abbrev xRest (XA : XBuf F c) : sProp 𝕄 := xM.view.loc (c : Thread nD τ) ↦[Finset.univ \ Finset.univ.biUnion xSet]{fullShare} XA
/-- The rows of the memory array no block reaches. -/
abbrev mRest (A : MBuf F c) : sProp 𝕄 := mM.view.loc (c : Thread nD τ) ↦[Finset.univ \ Finset.univ.biUnion mSet]{fullShare} A
/-- The column's other entries. -/
abbrev uRest (A : UBuf F c) : sProp 𝕄 := uM.view.loc (c : Thread nD τ) ↦[Finset.univ \ uSet]{fullShare} A

theorem x_apart (XA : XBuf F c) : ((c : Thread nD τ).loc main_call0_v4 ↦{fullShare} XA : sProp 𝕄) ⊣⊢ iprop(bigSep Finset.univ (xP c XA) ∗ xRest c XA) := by
  have e : (xP c XA : Fin 8 → sProp 𝕄) = fun b => (xM.view.loc (c : Thread nD τ) ↦[xSet b]{fullShare} XA) := funext fun b => xP_eq c XA b
  rw [e]
  exact blocks_and_rest (ℓ := (c : Thread nD τ).loc main_call0_v4) xSet xSet_disjoint XA
theorem m_apart (A : MBuf F c) : ((c : Thread nD τ).loc main_v0_0 ↦{fullShare} A : sProp 𝕄) ⊣⊢ iprop(bigSep Finset.univ (mP c A) ∗ mRest c A) :=
  blocks_and_rest (ℓ := (c : Thread nD τ).loc main_v0_0) mSet mSet_disjoint A
theorem u_apart (A : UBuf F c) : ((c : Thread nD τ).loc main_call0_v17_1 ↦{fullShare} A : sProp 𝕄) ⊣⊢ iprop(uP c A ∗ uRest c A) :=
  pointsTo_split_subset (Finset.subset_univ _)

theorem newRows_off (v2 : FVec F S384x256 .bf16) (v4 : FVec F S384x128 .bf16) (v6 v8 : FVec F S1x384 .f32) (XA : XBuf F c) (A : MBuf F c)
    (i : S100000x128.Idx) (h : ¬ (i 0).val < 16384) : newRows c v2 v4 v6 v8 XA A i = A i := by
  unfold newRows
  exact dif_neg h
/-- The rows no block reaches are as they were. -/
theorem mRest_newRows (v2 : FVec F S384x256 .bf16) (v4 : FVec F S384x128 .bf16) (v6 v8 : FVec F S1x384 .f32) (XA : XBuf F c) (A : MBuf F c) :
    (mRest c A : sProp 𝕄) = mRest c (newRows c v2 v4 v6 v8 XA A) := by
  refine pointsTo_congr fun i hi => ?_
  have hi' : ∀ b, i ∉ mSet b := fun b hb => (Finset.mem_sdiff.mp hi).2 (Finset.mem_biUnion.mpr ⟨b, Finset.mem_univ _, hb⟩)
  exact (newRows_off c v2 v4 v6 v8 XA A i fun h => (mSet_of_row h).elim fun b hb => hi' b hb).symm
/-- Nor do the column's other entries change. -/
theorem uRest_newCol (arg6 : Memref sig .tc .vmem S16384x1 .f32) (g6 : Buf (Elt F) (arg6.view.loc (c : Thread nD τ))) (U : UBuf F c) :
    (uRest c U : sProp 𝕄) = uRest c (newCol c arg6 g6 U) := by
  refine pointsTo_congr fun i hi => ?_
  refine (View.writes_apply_of_forall_ne (v := uTop.view) (f := U) _ fun y e => (Finset.mem_sdiff.mp hi).2 ?_).symm
  rw [← e]
  exact view_mem uTop.view y

/-! ## The double buffers -/

abbrev xOut : sProp 𝕄 := iprop(∃ f, (c : Thread nD τ).loc cc0_scoped0 ↦[Finset.univ \ Finset.univ.biUnion xsSet]{fullShare} f)
abbrev hOut : sProp 𝕄 := iprop(∃ f, (c : Thread nD τ).loc cc0_scoped2 ↦[Finset.univ \ Finset.univ.biUnion hsSet]{fullShare} f)
abbrev yOut : sProp 𝕄 := iprop(∃ f, (c : Thread nD τ).loc cc0_scoped4 ↦[Finset.univ \ Finset.univ.biUnion hsSet]{fullShare} f)

theorem xslotP_eq (s : Fin 2) (f) : (xslotP c s f : sProp 𝕄) = ((c : Thread nD τ).loc cc0_scoped0 ↦[xsSet s]{fullShare} f) :=
  congrArg (fun S => (_ ↦[S]{fullShare} f : sProp 𝕄)) (xslot_set s)
theorem hslotP_eq (s : Fin 2) (f) : (hslotP c s f : sProp 𝕄) = ((c : Thread nD τ).loc cc0_scoped2 ↦[hsSet s]{fullShare} f) :=
  congrArg (fun S => (_ ↦[S]{fullShare} f : sProp 𝕄)) (hslot_set s)
theorem yslotP_eq (s : Fin 2) (f) : (yslotP c s f : sProp 𝕄) = ((c : Thread nD τ).loc cc0_scoped4 ↦[hsSet s]{fullShare} f) :=
  congrArg (fun S => (_ ↦[S]{fullShare} f : sProp 𝕄)) (yslot_set s)

/-- A buffer held at anything is its two slots at anything and what lies outside them, and back; the slots as the kernel
    names them. -/
theorem slots_apart {ℓ : Loc nD τ sig} (J : Fin 2 → Finset (Idx ℓ)) (hd : ∀ s s', s ≠ s' → Disjoint (J s) (J s')) (P : Fin 2 → Buf (Elt F) ℓ → sProp 𝕄)
    (e : ∀ s f, P s f = (ℓ ↦[J s]{fullShare} f)) :
    iprop(∃ f : Buf (Elt F) ℓ, ℓ ↦{fullShare} f)
      ⊢ (iprop(((∃ f, P 0 f) ∗ ∃ f, P 1 f) ∗ ∃ f, ℓ ↦[Finset.univ \ Finset.univ.biUnion J]{fullShare} f) : sProp 𝕄) :=
  Ring.slots2_split_spare J hd (P 0) (P 1) (e 0) (e 1)
theorem slots_joined {ℓ : Loc nD τ sig} (J : Fin 2 → Finset (Idx ℓ)) (hd : ∀ s s', s ≠ s' → Disjoint (J s) (J s')) (P : Fin 2 → Buf (Elt F) ℓ → sProp 𝕄)
    (e : ∀ s f, P s f = (ℓ ↦[J s]{fullShare} f)) :
    iprop(((∃ f, P 0 f) ∗ ∃ f, P 1 f) ∗ ∃ f, ℓ ↦[Finset.univ \ Finset.univ.biUnion J]{fullShare} f)
      ⊢ (iprop(∃ f : Buf (Elt F) ℓ, ℓ ↦{fullShare} f) : sProp 𝕄) :=
  Ring.slots2_join_spare J hd (P 0) (P 1) (e 0) (e 1)

theorem x_slots : iprop(∃ f : Buf (Elt F) ((c : Thread nD τ).loc cc0_scoped0), (c : Thread nD τ).loc cc0_scoped0 ↦{fullShare} f)
    ⊢ (iprop(((∃ f, xslotP c 0 f) ∗ ∃ f, xslotP c 1 f) ∗ xOut c) : sProp 𝕄) :=
  slots_apart (ℓ := (c : Thread nD τ).loc cc0_scoped0) xsSet xsSet_disjoint (fun s f => xslotP c s f) (xslotP_eq c)
theorem x_whole : iprop(((∃ f, xslotP c 0 f) ∗ ∃ f, xslotP c 1 f) ∗ xOut c)
    ⊢ (iprop(∃ f : Buf (Elt F) ((c : Thread nD τ).loc cc0_scoped0), (c : Thread nD τ).loc cc0_scoped0 ↦{fullShare} f) : sProp 𝕄) :=
  slots_joined (ℓ := (c : Thread nD τ).loc cc0_scoped0) xsSet xsSet_disjoint (fun s f => xslotP c s f) (xslotP_eq c)
theorem h_slots : iprop(∃ f : Buf (Elt F) ((c : Thread nD τ).loc cc0_scoped2), (c : Thread nD τ).loc cc0_scoped2 ↦{fullShare} f)
    ⊢ (iprop(((∃ f, hslotP c 0 f) ∗ ∃ f, hslotP c 1 f) ∗ hOut c) : sProp 𝕄) :=
  slots_apart (ℓ := (c : Thread nD τ).loc cc0_scoped2) hsSet hsSet_disjoint (fun s f => hslotP c s f) (hslotP_eq c)
theorem h_whole : iprop(((∃ f, hslotP c 0 f) ∗ ∃ f, hslotP c 1 f) ∗ hOut c)
    ⊢ (iprop(∃ f : Buf (Elt F) ((c : Thread nD τ).loc cc0_scoped2), (c : Thread nD τ).loc cc0_scoped2 ↦{fullShare} f) : sProp 𝕄) :=
  slots_joined (ℓ := (c : Thread nD τ).loc cc0_scoped2) hsSet hsSet_disjoint (fun s f => hslotP c s f) (hslotP_eq c)
theorem y_slots : iprop(∃ f : Buf (Elt F) ((c : Thread nD τ).loc cc0_scoped4), (c : Thread nD τ).loc cc0_scoped4 ↦{fullShare} f)
    ⊢ (iprop(((∃ f, yslotP c 0 f) ∗ ∃ f, yslotP c 1 f) ∗ yOut c) : sProp 𝕄) :=
  slots_apart (ℓ := (c : Thread nD τ).loc cc0_scoped4) hsSet hsSet_disjoint (fun s f => yslotP c s f) (yslotP_eq c)
theorem y_whole : iprop(((∃ f, yslotP c 0 f) ∗ ∃ f, yslotP c 1 f) ∗ yOut c)
    ⊢ (iprop(∃ f : Buf (Elt F) ((c : Thread nD τ).loc cc0_scoped4), (c : Thread nD τ).loc cc0_scoped4 ↦{fullShare} f) : sProp 𝕄) :=
  slots_joined (ℓ := (c : Thread nD τ).loc cc0_scoped4) hsSet hsSet_disjoint (fun s f => yslotP c s f) (yslotP_eq c)

end Cert.Proof.Gru

end
-- ==== Proof.Launch.lean ====
/- The launch: what the region is entered with and left with, the body's run at its one point, and the whole program's
   run — its results as functions of what the host lines computed, its arguments unchanged, its counters at zero. -/
module

public import proofs.«01_k».proof.Proof.Split
public import proofs.«01_k».proof.Proof.Gen.KernelIdeal.Frame
public import Idealize.ShloMosaic.Lib.Pipeline.FrameSuffixV

@[expose] public section

noncomputable section

namespace Cert.Proof.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg) (c : Dev nD)

/-! ## The kernel's own counters -/

abbrev osem : Fin 7 → SemLoc sig := fun j => (![SemLoc.dma (cc0_scratch0).sem, SemLoc.dma (xsem 0).sem, SemLoc.dma (xsem 1).sem,
  SemLoc.dma (hsem 0).sem, SemLoc.dma (hsem 1).sem, SemLoc.dma (ysem 0).sem, SemLoc.dma (ysem 1).sem] : Fin 7 → SemLoc sig) j
theorem osem_facts : Pipeline.OwnSemFacts spec0 osem := by decide +kernel
theorem ownSems_eq : (Pipeline.ownSems0 (Ix := Unit) (Name := ℕ) (U := UU nD τ) (Lvl := ℕ) (Val := Elt F) (τ := τ) osem c : sProp 𝕄)
    = iprop(ucell c ∗ xcell c 0 ∗ xcell c 1 ∗ hcell c 0 ∗ hcell c 1 ∗ ycell c 0 ∗ ycell c 1) := by
  rw [Pipeline.ownSems0_eq_of_list c osem [0, 1, 2, 3, 4, 5, 6] (by decide) (by decide)]; rfl

/-! ## What the region finds and leaves -/

abbrev xArr : XBuf F c := V m c main_call0_v4
abbrev mArr : MBuf F c := V m c main_v0_0
abbrev uArr : UBuf F c := V m c main_call0_v17_1

/-- The operands' staging buffers at the one point. -/
abbrev sW : Memref sig .tc .vmem S384x256 .bf16 := win0_0.stage (cfg0.slots t0_0 0)
abbrev sV : Memref sig .tc .vmem S384x128 .bf16 := win0_1.stage (cfg0.slots t0_0 1)
abbrev sB : Memref sig .tc .vmem S1x384 .f32 := win0_2.stage (cfg0.slots t0_0 2)
abbrev sC : Memref sig .tc .vmem S1x384 .f32 := win0_3.stage (cfg0.slots t0_0 3)
abbrev sT : Memref sig .tc .vmem S16384x1 .f32 := win0_4.stage (cfg0.slots t0_0 4)
/-- What each holds there: its array's block. -/
abbrev gW : Buf (Elt F) (sW.view.loc (c : Thread nD τ)) := sW.view.rep (iblk m c 0 t0_0)
abbrev gV : Buf (Elt F) (sV.view.loc (c : Thread nD τ)) := sV.view.rep (iblk m c 1 t0_0)
abbrev gB : Buf (Elt F) (sB.view.loc (c : Thread nD τ)) := sB.view.rep (iblk m c 2 t0_0)
abbrev gC : Buf (Elt F) (sC.view.loc (c : Thread nD τ)) := sC.view.rep (iblk m c 3 t0_0)
abbrev gT : Buf (Elt F) (sT.view.loc (c : Thread nD τ)) := sT.view.rep (iblk m c 4 t0_0)

/-- The memory array after the run. -/
def mNew : MBuf F c := newRows c (w2Of c sW (gW m c)) (w3Of c sV (gV m c)) (w4Of c sB (gB m c)) (w5Of c sC (gC m c)) (xArr m c) (mArr m c)
/-- The last-update column after the run. -/
def uNew : UBuf F c := newCol c sT (gT m c) (uArr m c)

/-- What the region holds besides the staged operands, at the memory array's and the column's contents. -/
def holds (A : MBuf F c) (B : UBuf F c) : sProp 𝕄 :=
  iprop(uP c B ∗ ucell c ∗ bigSep Finset.univ (xP c (xArr m c)) ∗ bigSep Finset.univ (mP c A)
    ∗ xfree c 0 ∗ xfree c 1 ∗ hfree c 0 ∗ hfree c 1 ∗ yfree c 0 ∗ yfree c 1
    ∗ xRest c (xArr m c) ∗ mRest c A ∗ uRest c B ∗ xOut c ∗ hOut c ∗ yOut c)

/-- The region invariant: before the point, and after it. -/
def Φat : ℕ → sProp 𝕄
  | 0 => holds m c (mArr m c) (uArr m c)
  | _ + 1 => holds m c (mNew m c) (uNew m c)

/-- The region's proof data: the body leaves every staged operand as it found it. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Φat m c t.val
  q _ := fullShare
  owed _ := 0

theorem before_0 (t : Fin cfg0.N) (d) : (dats m 0 c).before 0 t d = iblk m c 0 t := by
  unfold Dat.before; rw [if_pos (fetch0_0 t)]; unfold Dat.fetched Dat.blockOf iblk; dsimp only [dats]; rfl
theorem after_0 (t : Fin cfg0.N) : (dats m 0 c).after 0 t = iblk m c 0 t := by dsimp only [dats]
theorem before_1 (t : Fin cfg0.N) (d) : (dats m 0 c).before 1 t d = iblk m c 1 t := by
  unfold Dat.before; rw [if_pos (fetch0_1 t)]; unfold Dat.fetched Dat.blockOf iblk; dsimp only [dats]; rfl
theorem after_1 (t : Fin cfg0.N) : (dats m 0 c).after 1 t = iblk m c 1 t := by dsimp only [dats]
theorem before_2 (t : Fin cfg0.N) (d) : (dats m 0 c).before 2 t d = iblk m c 2 t := by
  unfold Dat.before; rw [if_pos (fetch0_2 t)]; unfold Dat.fetched Dat.blockOf iblk; dsimp only [dats]; rfl
theorem after_2 (t : Fin cfg0.N) : (dats m 0 c).after 2 t = iblk m c 2 t := by dsimp only [dats]
theorem before_3 (t : Fin cfg0.N) (d) : (dats m 0 c).before 3 t d = iblk m c 3 t := by
  unfold Dat.before; rw [if_pos (fetch0_3 t)]; unfold Dat.fetched Dat.blockOf iblk; dsimp only [dats]; rfl
theorem after_3 (t : Fin cfg0.N) : (dats m 0 c).after 3 t = iblk m c 3 t := by dsimp only [dats]
theorem before_4 (t : Fin cfg0.N) (d) : (dats m 0 c).before 4 t d = iblk m c 4 t := by
  unfold Dat.before; rw [if_pos (fetch0_4 t)]; unfold Dat.fetched Dat.blockOf iblk; dsimp only [dats]; rfl
theorem after_4 (t : Fin cfg0.N) : (dats m 0 c).after 4 t = iblk m c 4 t := by dsimp only [dats]

/-! ## The body's run at the one point -/

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) := rfl
theorem prog_eq : (defs₀ (F := F)) .tc cfg0.body (cfg0.bodyArgs t0_0 (cfg0.slots t0_0))
    = bodyG sW (hstage0_0 0) sV (hstage0_1 0) sB (hstage0_2 0) sC (hstage0_3 0) sT (hstage0_4 0) :=
  (congrFun defs_tc _).trans rfl

set_option backward.isDefEq.respectTransparency.types false in
theorem body_obligation : BodyObligation (dats m 0 c) (defs₀ (F := F)) 𝒱₀ () Set.univ := fun t => by
  obtain rfl := fin_N0 t
  rw [bigSep_W0, bigSep_W0]
  dsimp only
  simp only [before_0, before_1, before_2, before_3, before_4, after_0, after_1, after_2, after_3, after_4]
  rw [show (dats m 0 c).Φ t0_0.castSucc = holds m c (mArr m c) (uArr m c) from rfl, show (dats m 0 c).Φ t0_0.succ = holds m c (mNew m c) (uNew m c) from rfl]
  unfold Dat.owesAt Pipeline.owesWithin
  rw [show (dats m 0 c).owed t0_0.castSucc = 0 from rfl, show (dats m 0 c).owed t0_0.succ = 0 from rfl]
  unfold owns holds mNew uNew
  iintro ⟨⟨HU, HUC, Hx, Hm, HX0, HX1, HH0, HH1, HY0, HY1, HxR, HmR, HuR, HxO, HhO, HyO⟩, ⟨%W, -, HW⟩,
    ⟨%d0, %g0, %hg0, H0⟩, ⟨%d1, %g1, %hg1, H1⟩, ⟨%d2, %g2, %hg2, H2⟩, ⟨%d3, %g3, %hg3, H3⟩, ⟨%d4, %g4, %hg4, H4⟩⟩
  ihave H0 := (pointsTo_rep_entails (c : Thread nD τ) sW g0 fullShare) $$ H0
  ihave H1 := (pointsTo_rep_entails (c : Thread nD τ) sV g1 fullShare) $$ H1
  ihave H2 := (pointsTo_rep_entails (c : Thread nD τ) sB g2 fullShare) $$ H2
  ihave H3 := (pointsTo_rep_entails (c : Thread nD τ) sC g3 fullShare) $$ H3
  ihave H4 := (pointsTo_rep_entails (c : Thread nD τ) sT g4 fullShare) $$ H4
  rw [hg0, hg1, hg2, hg3, hg4]
  sl_rw [prog_eq]
  iapply (bodyRun c (xArr m c) (mArr m c) sW (hstage0_0 0) sV (hstage0_1 0) sB (hstage0_2 0) sC (hstage0_3 0) sT (hstage0_4 0)
    (gW m c) (gV m c) (gB m c) (gC m c) (gT m c) (uArr m c) W)
  isplitl [H0 H1 H2 H3 H4]
  · iframe H0 H1 H2 H3 H4
  isplitl [HU]; · iexact HU
  isplitl [HUC]; · iexact HUC
  isplitl [HW]; · iexact HW
  isplitl [Hx]; · iexact Hx
  isplitl [Hm]; · iexact Hm
  isplitl [HX0]; · iexact HX0
  isplitl [HX1]; · iexact HX1
  isplitl [HH0]; · iexact HH0
  isplitl [HH1]; · iexact HH1
  isplitl [HY0]; · iexact HY0
  isplitl [HY1]; · iexact HY1
  iintro ⟨⟨H0, H1, H2, H3, H4⟩, HU, HUC, ⟨%W', HW⟩, Hx, Hm, HX0, HX1, HH0, HH1, HY0, HY1⟩
  isplitl [HU HUC Hx Hm HX0 HX1 HH0 HH1 HY0 HY1 HxR HmR HuR HxO HhO HyO]
  · isplitl [HU]; · iexact HU
    isplitl [HUC]; · iexact HUC
    isplitl [Hx]; · iexact Hx
    isplitl [Hm]; · iexact Hm
    isplitl [HX0]; · iexact HX0
    isplitl [HX1]; · iexact HX1
    isplitl [HH0]; · iexact HH0
    isplitl [HH1]; · iexact HH1
    isplitl [HY0]; · iexact HY0
    isplitl [HY1]; · iexact HY1
    isplitl [HxR]; · iexact HxR
    isplitl [HmR]; · iapply (Entails.of_eq (mRest_newRows c _ _ _ _ (xArr m c) (mArr m c))); iexact HmR
    isplitl [HuR]; · iapply (Entails.of_eq (uRest_newCol c sT (gT m c) (uArr m c))); iexact HuR
    isplitl [HxO]; · iexact HxO
    isplitl [HhO]; · iexact HhO
    iexact HyO
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  iexists _; isplitr; · ipureintro; exact View.read_rep _ _
  iexact H4

/-! ## The whole program -/

/-- The array the kernel reads, and the two it overwrites. -/
def hbmRead : Finset (Ref sig .tc) := {main_call0_v4}
def hbmWritten : Finset (Ref sig .tc) := {main_v0_0, main_call0_v17_1}
theorem hbmRead_sub : hbmRead ⊆ Pipeline.restRefs sig spec0 := by decide
theorem hbmWritten_sub : hbmWritten ⊆ Pipeline.restRefs sig spec0 \ hbmRead := by decide

/-- Contents beside those the region found: the two overwritten arrays' new ones. -/
def G (c : Dev nD) : (b : Ref sig .tc) → Buf (Elt F) ((c : Thread nD τ).loc b) :=
  Function.update (Function.update (V m c) main_v0_0 (mNew m c)) main_call0_v17_1 (uNew m c)
theorem G_m : G m c main_v0_0 = mNew m c := by
  unfold G; rw [Function.update_of_ne (by decide), Function.update_self]
theorem G_u : G m c main_call0_v17_1 = uNew m c := by
  unfold G; rw [Function.update_self]

theorem read_eq (W : (b : Ref sig .tc) → Buf (Elt F) ((c : Thread nD τ).loc b)) :
    (bigSep hbmRead (fun b => ((c : Thread nD τ).loc b) ↦{fullShare} W b) : sProp 𝕄) = iprop((c : Thread nD τ).loc main_call0_v4 ↦{fullShare} W main_call0_v4) := by
  rw [BI.bigSep_eq_bigSepL_of_eq [main_call0_v4] (by decide) (by decide)]; rfl
theorem written_eq (W : (b : Ref sig .tc) → Buf (Elt F) ((c : Thread nD τ).loc b)) :
    (bigSep hbmWritten (fun b => ((c : Thread nD τ).loc b) ↦{fullShare} W b) : sProp 𝕄)
      = iprop(((c : Thread nD τ).loc main_v0_0 ↦{fullShare} W main_v0_0) ∗ (c : Thread nD τ).loc main_call0_v17_1 ↦{fullShare} W main_call0_v17_1) := by
  rw [BI.bigSep_eq_bigSepL_of_eq [main_v0_0, main_call0_v17_1] (by decide) (by decide)]; rfl

theorem enter : Pipeline.ΦDRV osem spec0 hbmRead hbmWritten (V m) (V m) c ⊢ holds (F := F) m c (mArr m c) (uArr m c) := by
  unfold Pipeline.ΦDRV holds
  rw [scopedRest0_eq, read_eq, written_eq]
  iintro ⟨⟨Hx, Hh, Hy⟩, HS, HX, HM, HU⟩
  ihave HS := (Entails.of_eq (ownSems_eq c)) $$ HS
  icases HS with ⟨HUC, HX0, HX1, HH0, HH1, HY0, HY1⟩
  ihave Hx := (x_slots c) $$ Hx
  icases Hx with ⟨⟨Hx0, Hx1⟩, HxO⟩
  ihave Hh := (h_slots c) $$ Hh
  icases Hh with ⟨⟨Hh0, Hh1⟩, HhO⟩
  ihave Hy := (y_slots c) $$ Hy
  icases Hy with ⟨⟨Hy0, Hy1⟩, HyO⟩
  ihave HX := (x_apart c (xArr m c)).1 $$ HX
  icases HX with ⟨HX, HXR⟩
  ihave HM := (m_apart c (mArr m c)).1 $$ HM
  icases HM with ⟨HM, HMR⟩
  ihave HU := (u_apart c (uArr m c)).1 $$ HU
  icases HU with ⟨HU, HUR⟩
  unfold xfree hfree yfree
  isplitl [HU]; · iexact HU
  isplitl [HUC]; · iexact HUC
  isplitl [HX]; · iexact HX
  isplitl [HM]; · iexact HM
  isplitl [Hx0 HX0]; · iframe Hx0 HX0
  isplitl [Hx1 HX1]; · iframe Hx1 HX1
  isplitl [Hh0 HH0]; · iframe Hh0 HH0
  isplitl [Hh1 HH1]; · iframe Hh1 HH1
  isplitl [Hy0 HY0]; · iframe Hy0 HY0
  isplitl [Hy1 HY1]; · iframe Hy1 HY1
  iframe HXR HMR HUR HxO HhO HyO

theorem leave : holds (F := F) m c (mNew m c) (uNew m c) ⊢ Pipeline.ΦDRV osem spec0 hbmRead hbmWritten (V m) (G m) c := by
  unfold Pipeline.ΦDRV holds
  rw [scopedRest0_eq, read_eq, written_eq, G_m, G_u]
  unfold xfree hfree yfree
  iintro ⟨HU, HUC, HX, HM, ⟨Hx0, HX0⟩, ⟨Hx1, HX1⟩, ⟨Hh0, HH0⟩, ⟨Hh1, HH1⟩, ⟨Hy0, HY0⟩, ⟨Hy1, HY1⟩, HXR, HMR, HUR, HxO, HhO, HyO⟩
  isplitl [Hx0 Hx1 HxO Hh0 Hh1 HhO Hy0 Hy1 HyO]
  · isplitl [Hx0 Hx1 HxO]; · iapply (x_whole c); iframe Hx0 Hx1 HxO
    isplitl [Hh0 Hh1 HhO]; · iapply (h_whole c); iframe Hh0 Hh1 HhO
    iapply (y_whole c); iframe Hy0 Hy1 HyO
  isplitl [HUC HX0 HX1 HH0 HH1 HY0 HY1]
  · iapply (Entails.of_eq (ownSems_eq c).symm); iframe HUC HX0 HX1 HH0 HH1 HY0 HY1
  isplitl [HX HXR]; · iapply (x_apart c (xArr m c)).2; iframe HX HXR
  isplitl [HM HMR]; · iapply (m_apart c (mNew m c)).2; iframe HM HMR
  iapply (u_apart c (uNew m c)).2; iframe HU HUR

/-- The program's buffers when the host lines after the region are done. -/
abbrev endsAt (b : Ref sig .tc) : Buf (Elt F) ((c : Thread nD τ).loc b) :=
  StableHlo.after ([hostOps1] : List (List (HloOp τ sig (Elt F)))).flatten (Pipeline.withArrays spec0 c (Pipeline.withR (V0 m c) hbmWritten c (G m c)) fun w => (dats m 0 c).arrAt w cfg0.N)
    (Proc.devRef .tc b)

set_option backward.isDefEq.respectTransparency.types false in
/-- From any memory with zero counters the program terminates, every buffer no window stages at `endsAt`, every counter at
    zero. -/
theorem run_ends : θ_run defs (onTc (τ := τ) (main (F := F))) (s₀ m ρ) (fun r =>
    (∀ c : Dev nD, (∀ w : Fin cfg0.W, r.2.mem ((spec0 w).arr.view.loc (c : Thread nD τ)) = (dats m 0 c).arrAt w cfg0.N)
      ∧ ∀ b ∈ Pipeline.restRefs sig spec0, r.2.mem ((c : Thread nD τ).loc b) = endsAt m c b) ∧ r.2.sem = fun _ => 0) :=
  Pipeline.θ_run_frame_dmaR_aroundV (Q' := _) cfgs (dats m) (0 : Fin 1) launch0 osem defs₀ 𝒱₀ osem_facts hbmRead hbmWritten hbmRead_sub hbmWritten_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := Pipeline.hmain_around cfgs 0 defs₀ 𝒱₀ m main [hostOps0] [hostOps1] (by simp only [List.Forall]; exact hostOps0_sub)
      (by simp only [List.Forall]; exact hostOps0_fresh) main_chain)
    (hA := fun _ _ => rfl) (hin := fun c => enter m c) (hout := fun c => leave m c) (hQ' := fun _ h => h)

end Cert.Proof.Gru

end
-- ==== Proof.Ends.lean ====
/- What the run ends with: the arguments as they were, the memory array updated, the last-update column as a vector. -/
module

public import proofs.«01_k».proof.Proof.Launch

@[expose] public section

noncomputable section

namespace Cert.Proof.Gru

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg) (c : Dev nD)

/-- The one host line after the region writes the second result only. -/
theorem ends_of_ne (b : Ref sig .tc) (hb : b ≠ main_v0_1) (hw : ∀ w, Pipeline.arrRef spec0 w ≠ b) :
    endsAt m c b = Pipeline.withR (V0 m c) hbmWritten c (G m c) (Proc.devRef .tc b) := by
  unfold endsAt
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c _ _ b hw]
/-- A buffer the kernel does not overwrite ends as the region found it. -/
theorem ends_kept (b : Ref sig .tc) (hb : b ≠ main_v0_1) (hw : ∀ w, Pipeline.arrRef spec0 w ≠ b) (h : b ∉ hbmWritten) : endsAt m c b = V m c b := by
  rw [ends_of_ne m c b hb hw]
  exact Pipeline.withR_of_not_mem _ _ _ _ b h
theorem ends_m : endsAt m c main_v0_0 = mNew m c := by
  rw [ends_of_ne m c main_v0_0 (by decide) (by decide)]
  exact (Pipeline.withR_of_mem _ _ _ _ main_v0_0 (by decide)).trans (G_m m c)
theorem ends_u : endsAt m c main_v0_1 = shapeCast S100000 (uNew m c) shapeCasts_S100000x1_S100000 := by
  unfold endsAt
  have e : Pipeline.withArrays spec0 c (Pipeline.withR (V0 m c) hbmWritten c (G m c)) (fun w => (dats m 0 c).arrAt w cfg0.N) (Proc.devRef .tc main_call0_v17_1) = uNew m c := by
    rw [Pipeline.withArrays_of_ne _ c _ _ main_call0_v17_1 (by decide)]
    exact (Pipeline.withR_of_mem _ _ _ _ main_call0_v17_1 (by decide)).trans (G_u m c)
  simp only [hostOps1, List.flatten_cons, List.flatten_nil, List.append_nil, StableHlo.after_cons, StableHlo.after_nil]
  refine (StableHlo.reshape_result ..).trans ?_
  exact congrArg (fun z : S100000x1.Idx → Elt F .f32 => shapeCast S100000 z shapeCasts_S100000x1_S100000) e

/-- The run: the results, the arguments, the counters. -/
theorem run_main : θ_run defs (onTc (τ := τ) (main (F := F))) ⟨m, fun _ => 0, ρ⟩ (fun r => (∀ c : Dev nD,
      (r.2.mem ((c.tc : Thread nD τ).loc main_v0_0) = mNew m c
        ∧ r.2.mem ((c.tc : Thread nD τ).loc main_v0_1) = shapeCast S100000 (uNew m c) shapeCasts_S100000x1_S100000)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0) :=
  (θ_run defs _ _).mono (fun r ⟨h, hz⟩ => ⟨fun c =>
      have at' (b : Ref sig .tc) (hs : b.isScoped = false) (hw : ∀ w, Pipeline.arrRef spec0 w ≠ b) : r.2.mem ((c : Thread nD τ).loc b) = endsAt m c b :=
        (h c).2 b (Pipeline.mem_restRefs_of b hs hw)
      have kept (b : Ref sig .tc) (hs : b.isScoped = false) (hw : ∀ w, Pipeline.arrRef spec0 w ≠ b) (hb : b ≠ main_v0_1) (hn : b ∉ hbmWritten)
          (hV : V m c b = m ((c : Thread nD τ).loc b)) : r.2.mem ((c : Thread nD τ).loc b) = m ((c : Thread nD τ).loc b) :=
        (at' b hs hw).trans ((ends_kept m c b hb hw hn).trans hV)
      ⟨⟨(at' main_v0_0 (by decide) (by decide)).trans (ends_m m c), (at' main_v0_1 (by decide) (by decide)).trans (ends_u m c)⟩,
        kept main_arg0 (by decide) (by decide) (by decide) (by decide) (V_main_arg0 m c),
        kept main_arg1 (by decide) (by decide) (by decide) (by decide) (V_main_arg1 m c),
        kept main_arg2 (by decide) (by decide) (by decide) (by decide) (V_main_arg2 m c),
        kept main_arg3 (by decide) (by decide) (by decide) (by decide) (V_main_arg3 m c),
        kept main_arg4 (by decide) (by decide) (by decide) (by decide) (V_main_arg4 m c),
        kept main_arg5 (by decide) (by decide) (by decide) (by decide) (V_main_arg5 m c),
        kept main_arg6 (by decide) (by decide) (by decide) (by decide) (V_main_arg6 m c),
        kept main_arg7 (by decide) (by decide) (by decide) (by decide) (V_main_arg7 m c),
        kept main_arg8 (by decide) (by decide) (by decide) (by decide) (V_main_arg8 m c)⟩, hz⟩) (run_ends m ρ)

end Cert.Proof.Gru

end
-- ==== Proof.Frames.lean ====
/- What each program leaves untouched: its nine arguments, and every semaphore counter at zero. The kernel's two readings
   (words and extended reals) have the same text, so both come from the one run of Ends.lean. -/
module

public import proofs.«01_k».proof.Defs
public import proofs.«01_k».proof.Proof.Gen.Kernel
public import proofs.«01_k».proof.Proof.Gen.ReferenceIdeal.Run
public import proofs.«01_k».proof.Proof.Ends
public import Idealize.ShloMosaic.Init

@[expose] public section

open Idealize.ShloMosaic Idealize.SL Idealize.SL.Sem
noncomputable section

namespace Cert.Proof.Gru

/-- At either reading of the floats, the kernel leaves its arguments and its counters as it found them. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0) :=
  (θ_run (Cert.KernelIdeal.defs (F := F)) _ _).mono (fun _ h => ⟨fun c => (h.1 c).2, h.2⟩) (run_main (F := F) m ρ)

/-- The kernel over the extended reals. -/
theorem frame_kernelIdeal : Cert.quiescent_KernelIdeal := fun m ρ _ => kept (F := Ideal) m ρ

/-- The kernel's body table reads the same at words in both of its texts: one label, one body. -/
theorem bodies_eq : @Cert.Kernel.defs₀ Bits _ _ = @Cert.KernelIdeal.defs₀ Bits _ _ := by
  funext p l a
  match p with
  | .scScalar _ => rfl
  | .scVector _ _ => rfl
  | .tc =>
    match l, a with
    | ⟨0, _⟩, (t, s) => rfl
    | ⟨_ + 1, h⟩, _ => exact absurd h (Nat.not_lt.2 (Nat.le_add_left _ _))

/-- Hence so does the whole table, with the pipeline's own labels. -/
theorem table_eq : @Cert.Kernel.defs Bits _ _ = @Cert.KernelIdeal.defs Bits _ _ :=
  congrArg (Pipeline.defs Cert.KernelIdeal.pcfgs) bodies_eq

/-- The kernel over words: the same run, at the other reading of the floats. -/
theorem frame_kernel : Cert.quiescent_Kernel := fun m ρ _ => by
  rw [table_eq]
  exact kept (F := Bits) m ρ

/-- The reference writes no argument, and declares no semaphore whose counter could move. -/
theorem frame_referenceIdeal : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

end Cert.Proof.Gru

end

end
-- ==== Proof.Witness.lean ====
/- The shape facts that the precondition states. -/
module

public import proofs.«01_k».proof.Defs

@[expose] public section

open Idealize.ShloMosaic
noncomputable section

namespace Cert.Proof.Gru

/-- The precondition's slice, reshape and broadcast fit their shapes. -/
instance preFacts : Cert.Pre_ids_in_order_time_finite.Facts where
  slices_S16384_S1_0 := by decide
  shapeCasts_S1_S_ := by decide
  bcast_S_S16384 := by decide

end Cert.Proof.Gru

end

end
-- ==== Proof.Arrays.lean ====
/- What the host lines before the region leave in the arrays the region works on: each as a term of the program's
   arguments, and, in exact arithmetic, each element. -/
module

public import proofs.«01_k».proof.Proof.Launch
public import Idealize.ShloMosaic.Lib.StableHlo.Run
public import Idealize.ShloMosaic.Lib.Pointwise

@[expose] public section

set_option maxRecDepth 16384

noncomputable section

namespace Cert.Proof.Gru

open Cert.KernelIdeal Cert.KernelIdeal.Gen
open Idealize.ShloMosaic Idealize.ShloMosaic.TcCoe Idealize.ShloMosaic.StableHlo

section Terms

variable {F : FTy → Type} [FloatOps F] (m : (ℓ : Loc nD τ sig) → Buf (Elt F) ℓ) (c : Dev nD)

/-- The first timestamp, which the host lines subtract from the stored arrays and add back. -/
def first (ts : FVec F S16384 .f32) : FVec F S_ .f32 :=
  shapeCast S_ (extractStridedSlice S1 ![0] ts slices_S16384_S1_0) shapeCasts_S1_S_
/-- The memory array with the first timestamp subtracted and added back. -/
def memIn (ts : FVec F S16384 .f32) (mem : FVec F S100000x128 .f32) : FVec F S100000x128 .f32 :=
  addf (subf mem (broadcastInDim S100000x128 ![] bcast_S_S100000x128 (first ts))) (broadcastInDim S100000x128 ![] bcast_S_S100000x128 (first ts))
/-- The last-update times as a column, treated the same way. -/
def timeIn (ts : FVec F S16384 .f32) (last : FVec F S100000 .f32) : FVec F S100000x1 .f32 :=
  addf (subf (shapeCast S100000x1 last shapeCasts_S100000_S100000x1) (broadcastInDim S100000x1 ![] bcast_S_S100000x1 (first ts)))
    (broadcastInDim S100000x1 ![] bcast_S_S100000x1 (first ts))

theorem V_ts : V m c main_call0_v0 = shapeCast S16384x1 (m ((c.tc : Thread nD τ).loc main_arg2)) shapeCasts_S16384_S16384x1 := by
  simp only [V, V0, hostOps0, List.flatten_cons, List.flatten_nil, List.append_nil, TRef.reshape, TRef.binary, TRef.unary, TRef.toBuf, TRef.ofBuf, cast_eq]
  after_results_simp <;> rfl
theorem V_bi : V m c main_call0_v2 = shapeCast S1x384 (m ((c.tc : Thread nD τ).loc main_arg7)) shapeCasts_S384_S1x384 := by
  simp only [V, V0, hostOps0, List.flatten_cons, List.flatten_nil, List.append_nil, TRef.reshape, TRef.binary, TRef.unary, TRef.toBuf, TRef.ofBuf, cast_eq]
  after_results_simp <;> rfl
theorem V_bh : V m c main_call0_v3 = shapeCast S1x384 (m ((c.tc : Thread nD τ).loc main_arg8)) shapeCasts_S384_S1x384 := by
  simp only [V, V0, hostOps0, List.flatten_cons, List.flatten_nil, List.append_nil, TRef.reshape, TRef.binary, TRef.unary, TRef.toBuf, TRef.ofBuf, cast_eq]
  after_results_simp <;> rfl
theorem V_msg : V m c main_call0_v4 = truncf (F := F) .bf16 (m ((c.tc : Thread nD τ).loc main_arg1) : FVec F S16384x256 .f32) bitsLt_bf16_f32 := by
  simp only [V, V0, hostOps0, List.flatten_cons, List.flatten_nil, List.append_nil, TRef.reshape, TRef.binary, TRef.unary, TRef.toBuf, TRef.ofBuf, cast_eq]
  after_results_simp <;> rfl
theorem V_wi : V m c main_call0_v5 = truncf (F := F) .bf16 (m ((c.tc : Thread nD τ).loc main_arg5) : FVec F S384x256 .f32) bitsLt_bf16_f32 := by
  simp only [V, V0, hostOps0, List.flatten_cons, List.flatten_nil, List.append_nil, TRef.reshape, TRef.binary, TRef.unary, TRef.toBuf, TRef.ofBuf, cast_eq]
  after_results_simp <;> rfl
theorem V_wh : V m c main_call0_v6 = truncf (F := F) .bf16 (m ((c.tc : Thread nD τ).loc main_arg6) : FVec F S384x128 .f32) bitsLt_bf16_f32 := by
  simp only [V, V0, hostOps0, List.flatten_cons, List.flatten_nil, List.append_nil, TRef.reshape, TRef.binary, TRef.unary, TRef.toBuf, TRef.ofBuf, cast_eq]
  after_results_simp <;> rfl
theorem V_mem : V m c main_v0_0 = memIn (m ((c.tc : Thread nD τ).loc main_arg2)) (m ((c.tc : Thread nD τ).loc main_arg3)) := by
  simp only [V, V0, hostOps0, List.flatten_cons, List.flatten_nil, List.append_nil, TRef.reshape, TRef.binary, TRef.unary, TRef.toBuf, TRef.ofBuf, cast_eq]
  after_results_simp <;> rfl
theorem V_time : V m c main_call0_v17_1 = timeIn (m ((c.tc : Thread nD τ).loc main_arg2)) (m ((c.tc : Thread nD τ).loc main_arg4)) := by
  simp only [V, V0, hostOps0, List.flatten_cons, List.flatten_nil, List.append_nil, TRef.reshape, TRef.binary, TRef.unary, TRef.toBuf, TRef.ofBuf, cast_eq]
  after_results_simp <;> rfl

end Terms

/-! ## In exact arithmetic -/

/-- A finite number subtracted and added back changes nothing. -/
theorem sub_add_self (x t : EReal) (h1 : t ≠ ⊤) (h2 : t ≠ ⊥) : x - t + t = x := by
  lift t to ℝ using ⟨h1, h2⟩
  exact EReal.sub_add_cancel

theorem memIn_apply (ts : FVec Ideal S16384 .f32) (mem : FVec Ideal S100000x128 .f32) (h1 : (ts (ix1 0) : EReal) ≠ ⊤) (h2 : (ts (ix1 0) : EReal) ≠ ⊥)
    (i : Fin 100000) (j : Fin 128) : memIn ts mem (ix2 i j) = mem (ix2 i j) := by
  refine Eq.trans ?_ (sub_add_self (mem (ix2 i j)) (ts (ix1 0)) h1 h2)
  pointwise [memIn, first]

theorem timeIn_apply (ts : FVec Ideal S16384 .f32) (last : FVec Ideal S100000 .f32) (h1 : (ts (ix1 0) : EReal) ≠ ⊤) (h2 : (ts (ix1 0) : EReal) ≠ ⊥)
    (i : Fin 100000) : timeIn ts last (ix2 i 0) = last (ix1 i) := by
  refine Eq.trans ?_ (sub_add_self (last (ix1 i)) (ts (ix1 0)) h1 h2)
  pointwise [timeIn, first]

end Cert.Proof.Gru
-- ==== Proof.Cell.lean ====
/- The gated recurrent cell in plain sums: what one element of a memory row becomes, from the row's message and the row itself. -/
module

public import proofs.«01_k».proof.Proof.Values
public import Idealize.ShloMosaic.Lib.Pointwise

@[expose] public section

set_option maxRecDepth 16384

noncomputable section

namespace Cert.Proof.Gru

open Cert.KernelIdeal Cert.KernelIdeal.Gen
open Idealize.ShloMosaic Idealize.ShloMosaic.TcCoe

/-- Row `j` of a gate's matrix against the vector `x`, plus the gate's bias. -/
def gate {n : ℕ} (x : Fin n → EReal) (w : Fin 384 → Fin n → EReal) (b : Fin 384 → EReal) (j : Fin 384) : EReal :=
  (∑ k : Fin n, x k * w j k) + b j

/-- Element `j` of the new memory row: the reset gate, the update gate and the candidate, then the blend of candidate and old row. -/
def cell (x : Fin 256 → EReal) (h : Fin 128 → EReal) (wi : Fin 384 → Fin 256 → EReal) (wh : Fin 384 → Fin 128 → EReal)
    (bi bh : Fin 384 → EReal) (j : Fin 128) : EReal :=
  (1 - Ideal.logistic (gate x wi bi ⟨128 + j, by omega⟩ + gate h wh bh ⟨128 + j, by omega⟩))
      * Ideal.tanh (gate x wi bi ⟨256 + j, by omega⟩
        + Ideal.logistic (gate x wi bi ⟨j, by omega⟩ + gate h wh bh ⟨j, by omega⟩) * gate h wh bh ⟨256 + j, by omega⟩)
    + Ideal.logistic (gate x wi bi ⟨128 + j, by omega⟩ + gate h wh bh ⟨128 + j, by omega⟩) * h j

/-- One block of the kernel, read at row `a` and column `b`, is the cell of that row. -/
theorem gruBlock_apply (v2 : FVec Ideal S384x256 .bf16) (v4 : FVec Ideal S384x128 .bf16) (v6 v8 : FVec Ideal S1x384 .f32)
    (x : FVec Ideal S2048x256 .bf16) (h : FVec Ideal S2048x128 .f32) (a : Fin 2048) (b : Fin 128) :
    gruBlock v2 v4 v6 v8 x h (ix2 a b)
      = cell (fun k => x (ix2 a k)) (fun k => h (ix2 a k)) (fun j k => v2 (ix2 j k)) (fun j k => v4 (ix2 j k))
          (fun j => v6 (ix2 0 j)) (fun j => v8 (ix2 0 j)) b := by
  pointwise [gruBlock, k0_pay2, cell, gate]

end Cert.Proof.Gru

end

end
-- ==== Proof.KernelRows.lean ====
/- What the kernel leaves, read at an element in exact arithmetic: the first 16384 rows of the memory array are the cell's rows,
   the first 16384 entries of the column are the timestamps, and the rest is as the host lines left it. -/
module

public import proofs.«01_k».proof.Proof.Arrays
public import proofs.«01_k».proof.Proof.Cell
public import Idealize.ShloMosaic.Lib.VecWindow

@[expose] public section

set_option maxRecDepth 16384

noncomputable section

namespace Cert.Proof.Gru

open Cert.KernelIdeal Cert.KernelIdeal.Gen
open Idealize.ShloMosaic Idealize.ShloMosaic.TcCoe

section Windows

variable {F : FTy → Type} [FloatOps F] (m : (ℓ : Loc nD τ sig) → Buf (Elt F) ℓ) (c : Dev nD)

/-! ## Each staged operand is its whole array -/

theorem iblk_0 : iblk m c 0 t0_0 = V m c main_call0_v5 :=
  Memref.read_access_unit_zero (Elt F) main_call0_v5
    (show (fun a => (win0_0.index t0_0) a * main_call0_v5.ty.shape.size a) = fun _ => 0 from
      funext fun a => by fin_cases a <;> decide) (fun a => by fin_cases a <;> decide) _
theorem iblk_1 : iblk m c 1 t0_0 = V m c main_call0_v6 :=
  Memref.read_access_unit_zero (Elt F) main_call0_v6
    (show (fun a => (win0_1.index t0_0) a * main_call0_v6.ty.shape.size a) = fun _ => 0 from
      funext fun a => by fin_cases a <;> decide) (fun a => by fin_cases a <;> decide) _
theorem iblk_2 : iblk m c 2 t0_0 = V m c main_call0_v2 :=
  Memref.read_access_unit_zero (Elt F) main_call0_v2
    (show (fun a => (win0_2.index t0_0) a * main_call0_v2.ty.shape.size a) = fun _ => 0 from
      funext fun a => by fin_cases a <;> decide) (fun a => by fin_cases a <;> decide) _
theorem iblk_3 : iblk m c 3 t0_0 = V m c main_call0_v3 :=
  Memref.read_access_unit_zero (Elt F) main_call0_v3
    (show (fun a => (win0_3.index t0_0) a * main_call0_v3.ty.shape.size a) = fun _ => 0 from
      funext fun a => by fin_cases a <;> decide) (fun a => by fin_cases a <;> decide) _
theorem iblk_4 : iblk m c 4 t0_0 = V m c main_call0_v0 :=
  Memref.read_access_unit_zero (Elt F) main_call0_v0
    (show (fun a => (win0_4.index t0_0) a * main_call0_v0.ty.shape.size a) = fun _ => 0 from
      funext fun a => by fin_cases a <;> decide) (fun a => by fin_cases a <;> decide) _

theorem w2_eq : w2Of c sW (gW m c) = shapeCast S384x256 (V m c main_call0_v5) shapeCasts_S384x256_S384x256 := by
  have e : sW.view.readAt (Elt F) (Rect.unit (s := S384x256) ![0, 0] S384x256.size inb_S384x256_S384x256_0_0).toLoadRect (gW m c) = V m c main_call0_v5 :=
    ((View.readAt_full sW.view _ _).trans (View.read_rep _ _)).trans (iblk_0 m c)
  exact congrArg (fun z => shapeCast S384x256 z shapeCasts_S384x256_S384x256) e
theorem w3_eq : w3Of c sV (gV m c) = shapeCast S384x128 (V m c main_call0_v6) shapeCasts_S384x128_S384x128 := by
  have e : sV.view.readAt (Elt F) (Rect.unit (s := S384x128) ![0, 0] S384x128.size inb_S384x128_S384x128_0_0).toLoadRect (gV m c) = V m c main_call0_v6 :=
    ((View.readAt_full sV.view _ _).trans (View.read_rep _ _)).trans (iblk_1 m c)
  exact congrArg (fun z => shapeCast S384x128 z shapeCasts_S384x128_S384x128) e
theorem w4_eq : w4Of c sB (gB m c) = shapeCast S1x384 (V m c main_call0_v2) shapeCasts_S1x384_S1x384 := by
  have e : sB.view.readAt (Elt F) (Rect.unit (s := S1x384) ![0, 0] S1x384.size inb_S1x384_S1x384_0_0).toLoadRect (gB m c) = V m c main_call0_v2 :=
    ((View.readAt_full sB.view _ _).trans (View.read_rep _ _)).trans (iblk_2 m c)
  exact congrArg (fun z => shapeCast S1x384 z shapeCasts_S1x384_S1x384) e
theorem w5_eq : w5Of c sC (gC m c) = shapeCast S1x384 (V m c main_call0_v3) shapeCasts_S1x384_S1x384 := by
  have e : sC.view.readAt (Elt F) (Rect.unit (s := S1x384) ![0, 0] S1x384.size inb_S1x384_S1x384_0_0).toLoadRect (gC m c) = V m c main_call0_v3 :=
    ((View.readAt_full sC.view _ _).trans (View.read_rep _ _)).trans (iblk_3 m c)
  exact congrArg (fun z => shapeCast S1x384 z shapeCasts_S1x384_S1x384) e
theorem ts_eq : sT.view.read (Elt F) (gT m c) = V m c main_call0_v0 := (View.read_rep _ _).trans (iblk_4 m c)

/-! ## Rows -/

/-- Block `b` of the messages at row `a` is the messages' row `2048 b + a`; -/
theorem xblk_read (X : XBuf F c) (b : Fin 8) (a : Fin 2048) (k : Fin 256) :
    (xblk b).view.read (Elt F) X (ix2 a k) = (X : Vec F S16384x256 .bf16) (ix2 ⟨2048 * b.val + a.val, by omega⟩ k) := by
  show X ((xblk b).view.emb (ix2 a k)) = _
  refine congrArg X (funext fun t => ?_)
  fin_cases t
  · exact Fin.ext (show 2048 * b.val + 1 * a.val = 2048 * b.val + a.val by omega)
  · exact Fin.ext (show 0 + 1 * k.val = k.val by omega)
/-- and the same of the memory rows. -/
theorem mblk_read (A : MBuf F c) (b : Fin 8) (a : Fin 2048) (k : Fin 128) :
    (mblk b).view.read (Elt F) A (ix2 a k) = (A : Vec F S100000x128 .f32) (ix2 ⟨2048 * b.val + a.val, by omega⟩ k) := by
  show A ((mblk b).view.emb (ix2 a k)) = _
  refine congrArg A (funext fun t => ?_)
  fin_cases t
  · exact Fin.ext (show 0 + 1 * (2048 * b.val + 1 * a.val) = 2048 * b.val + a.val by omega)
  · exact Fin.ext (show 0 + 1 * (0 + 1 * k.val) = k.val by omega)

/-- The column after the copy: the staged timestamps first, -/
theorem newCol_low (g6 : Buf (Elt F) (sT.view.loc (c : Thread nD τ))) (U : UBuf F c) (i : Fin 16384) :
    (newCol c sT g6 U : Vec F S100000x1 .f32) (ix2 ⟨i.val, by omega⟩ 0) = sT.view.read (Elt F) g6 (ix2 i 0) := by
  have e : uTop.view.read (Elt F) (newCol c sT g6 U) = sT.view.read (Elt F) g6 := View.read_writes_whole uTop.view U _
  have p : (ix2 ⟨i.val, by omega⟩ 0 : S100000x1.Idx) = uTop.view.emb (ix2 (n0 := 16384) (n1 := 1) i 0) := funext fun t => by
    fin_cases t
    · exact Fin.ext (show i.val = 0 + 1 * i.val by omega)
    · exact Fin.ext (show 0 = 0 + 1 * 0 by omega)
  have r := congrFun e (ix2 (n0 := 16384) (n1 := 1) i 0)
  refine (congrArg (newCol c sT g6 U) p).trans (Eq.trans ?_ r)
  generalize newCol c sT g6 U = N
  rfl
/-- and the old entries after them. -/
theorem newCol_high (g6 : Buf (Elt F) (sT.view.loc (c : Thread nD τ))) (U : UBuf F c) (i : Fin 100000) (hi : ¬ i.val < 16384) :
    (newCol c sT g6 U : Vec F S100000x1 .f32) (ix2 i 0) = (U : Vec F S100000x1 .f32) (ix2 i 0) := by
  refine View.writes_apply_of_forall_ne (v := uTop.view) (f := U) _ fun y hy => ?_
  have h0 : (uTop.view.emb y (0 : Fin 2)).val = i.val := congrArg (fun z : S100000x1.Idx => (z 0).val) hy
  have h1 : (uTop.view.emb y (0 : Fin 2)).val = 0 + 1 * (y (0 : Fin 2)).val := rfl
  have h2 : (y (0 : Fin 2)).val < 16384 := (y (0 : Fin 2)).isLt
  omega

end Windows

/-! ## In exact arithmetic -/

variable (m : (ℓ : Loc nD τ sig) → Buf (Elt Ideal) ℓ) (c : Dev nD)

/-- The program's arguments, by what they are. -/
abbrev aMsg : FVec Ideal S16384x256 .f32 := m ((c.tc : Thread nD τ).loc main_arg1)
abbrev aTs : FVec Ideal S16384 .f32 := m ((c.tc : Thread nD τ).loc main_arg2)
abbrev aMem : FVec Ideal S100000x128 .f32 := m ((c.tc : Thread nD τ).loc main_arg3)
abbrev aLast : FVec Ideal S100000 .f32 := m ((c.tc : Thread nD τ).loc main_arg4)
abbrev aWi : FVec Ideal S384x256 .f32 := m ((c.tc : Thread nD τ).loc main_arg5)
abbrev aWh : FVec Ideal S384x128 .f32 := m ((c.tc : Thread nD τ).loc main_arg6)
abbrev aBi : FVec Ideal S384 .f32 := m ((c.tc : Thread nD τ).loc main_arg7)
abbrev aBh : FVec Ideal S384 .f32 := m ((c.tc : Thread nD τ).loc main_arg8)

/-- The cell at equal data. -/
theorem cell_congr {x x' : Fin 256 → EReal} {h h' : Fin 128 → EReal} {wi wi' : Fin 384 → Fin 256 → EReal} {wh wh' : Fin 384 → Fin 128 → EReal}
    {bi bi' bh bh' : Fin 384 → EReal} (ex : ∀ k, x k = x' k) (eh : ∀ k, h k = h' k) (ei : ∀ j k, wi j k = wi' j k) (ew : ∀ j k, wh j k = wh' j k)
    (eb : ∀ j, bi j = bi' j) (ec : ∀ j, bh j = bh' j) (j : Fin 128) : cell x h wi wh bi bh j = cell x' h' wi' wh' bi' bh' j := by
  obtain rfl : x = x' := funext ex
  obtain rfl : h = h' := funext eh
  obtain rfl : wi = wi' := funext fun j => funext (ei j)
  obtain rfl : wh = wh' := funext fun j => funext (ew j)
  obtain rfl : bi = bi' := funext eb
  obtain rfl : bh = bh' := funext ec
  rfl

/-- Where the row's block and its place in the block are given. -/
theorem newRows_on (v2 : FVec Ideal S384x256 .bf16) (v4 : FVec Ideal S384x128 .bf16) (v6 v8 : FVec Ideal S1x384 .f32)
    (X : XBuf Ideal c) (A : MBuf Ideal c) (i : S100000x128.Idx) (h : (i 0).val < 16384) (b : Fin 8) (a : Fin 2048) (j : Fin 128)
    (hb : b.val = (i 0).val / 2048) (ha : a.val = (i 0).val % 2048) (hj : i 1 = j) :
    newRows c v2 v4 v6 v8 X A i = newBlock c v2 v4 v6 v8 X A b (ix2 a j) := by
  obtain ⟨b, h8⟩ := b
  obtain ⟨a, h2⟩ := a
  obtain rfl : b = (i 0).val / 2048 := hb
  obtain rfl : a = (i 0).val % 2048 := ha
  subst hj
  exact dif_pos h

/-- A row of the first 16384, whichever block it is in, is the cell's row. -/
theorem newRows_low (v2 : FVec Ideal S384x256 .bf16) (v4 : FVec Ideal S384x128 .bf16) (v6 v8 : FVec Ideal S1x384 .f32)
    (X : XBuf Ideal c) (A : MBuf Ideal c) (i : Fin 16384) (j : Fin 128) :
    newRows c v2 v4 v6 v8 X A (ix2 (n0 := 100000) (n1 := 128) ⟨i.val, by omega⟩ j)
      = cell (fun k => (X : FVec Ideal S16384x256 .bf16) (ix2 i k)) (fun k => (A : FVec Ideal S100000x128 .f32) (ix2 ⟨i.val, by omega⟩ k))
          (fun j k => v2 (ix2 j k)) (fun j k => v4 (ix2 j k)) (fun j => v6 (ix2 0 j)) (fun j => v8 (ix2 0 j)) j := by
  have hi := i.isLt
  obtain ⟨b, hb⟩ : ∃ b : Fin 8, b.val = i.val / 2048 := ⟨⟨i.val / 2048, by omega⟩, rfl⟩
  obtain ⟨a, ha⟩ : ∃ a : Fin 2048, a.val = i.val % 2048 := ⟨⟨i.val % 2048, by omega⟩, rfl⟩
  have hr : 2048 * b.val + a.val = i.val := by omega
  refine (newRows_on c v2 v4 v6 v8 X A (ix2 (n0 := 100000) (n1 := 128) ⟨i.val, by omega⟩ j) hi b a j hb ha rfl).trans ?_
  refine (gruBlock_apply v2 v4 v6 v8 _ _ a j).trans ?_
  refine cell_congr (fun k => (xblk_read c X b a k).trans ?_) (fun k => (mblk_read c A b a k).trans ?_) (fun _ _ => rfl) (fun _ _ => rfl) (fun _ => rfl) (fun _ => rfl) j
  · exact congrArg (fun z : Fin 16384 => (X : FVec Ideal S16384x256 .bf16) (ix2 z k)) (Fin.ext hr)
  · exact congrArg (fun z : Fin 100000 => (A : FVec Ideal S100000x128 .f32) (ix2 z k)) (Fin.ext hr)

/-! The staged operands and the messages, at an element: the arguments. -/

theorem w2_apply (j : Fin 384) (k : Fin 256) : w2Of c sW (gW m c) (ix2 j k) = aWi m c (ix2 j k) := by
  rw [w2_eq, V_wi]; pointwise
theorem w3_apply (j : Fin 384) (k : Fin 128) : w3Of c sV (gV m c) (ix2 j k) = aWh m c (ix2 j k) := by
  rw [w3_eq, V_wh]; pointwise
theorem w4_apply (j : Fin 384) : w4Of c sB (gB m c) (ix2 0 j) = aBi m c (ix1 j) := by
  rw [w4_eq, V_bi]; pointwise
theorem w5_apply (j : Fin 384) : w5Of c sC (gC m c) (ix2 0 j) = aBh m c (ix1 j) := by
  rw [w5_eq, V_bh]; pointwise
theorem x_apply (i : Fin 16384) (k : Fin 256) : (xArr m c : FVec Ideal S16384x256 .bf16) (ix2 i k) = aMsg m c (ix2 i k) := by
  have e : (xArr m c : FVec Ideal S16384x256 .bf16) = truncf .bf16 (aMsg m c) bitsLt_bf16_f32 := V_msg m c
  rw [e]; pointwise

section Finite

variable (h1 : (aTs m c (ix1 0) : EReal) ≠ ⊤) (h2 : (aTs m c (ix1 0) : EReal) ≠ ⊥)
include h1 h2

theorem m_apply (i : Fin 100000) (k : Fin 128) : (mArr m c : FVec Ideal S100000x128 .f32) (ix2 i k) = aMem m c (ix2 i k) :=
  (congrFun (V_mem m c) (ix2 i k)).trans (memIn_apply _ _ h1 h2 i k)
theorem u_apply (i : Fin 100000) : (uArr m c : FVec Ideal S100000x1 .f32) (ix2 i 0) = aLast m c (ix1 i) :=
  (congrFun (V_time m c) (ix2 i 0)).trans (timeIn_apply _ _ h1 h2 i)

/-- The memory array after the run: the cell's rows, -/
theorem mNew_low (i : Fin 16384) (j : Fin 128) :
    (mNew m c : FVec Ideal S100000x128 .f32) (ix2 ⟨i.val, by omega⟩ j)
      = cell (fun k => aMsg m c (ix2 i k)) (fun k => aMem m c (ix2 ⟨i.val, by omega⟩ k))
          (fun j k => aWi m c (ix2 j k)) (fun j k => aWh m c (ix2 j k)) (fun j => aBi m c (ix1 j)) (fun j => aBh m c (ix1 j)) j := by
  refine (newRows_low c _ _ _ _ (xArr m c) (mArr m c) i j).trans ?_
  exact cell_congr (x_apply m c i) (fun k => m_apply m c h1 h2 _ k) (w2_apply m c) (w3_apply m c) (w4_apply m c) (w5_apply m c) j
/-- then the old rows. -/
theorem mNew_high (i : Fin 100000) (hi : ¬ i.val < 16384) (j : Fin 128) :
    (mNew m c : FVec Ideal S100000x128 .f32) (ix2 i j) = aMem m c (ix2 i j) :=
  (newRows_off c _ _ _ _ (xArr m c) (mArr m c) (ix2 i j) hi).trans (m_apply m c h1 h2 i j)

omit h1 h2 in
/-- The last-update times after the run: the timestamps, -/
theorem uNew_low (i : Fin 16384) :
    (shapeCast S100000 (uNew m c : FVec Ideal S100000x1 .f32) shapeCasts_S100000x1_S100000) (ix1 ⟨i.val, by omega⟩) = aTs m c (ix1 i) := by
  have e : (uNew m c : FVec Ideal S100000x1 .f32) (ix2 ⟨i.val, by omega⟩ 0) = aTs m c (ix1 i) := by
    have e1 := newCol_low c (gT m c) (uArr m c) i
    have e2 := congrFun (ts_eq m c) (ix2 (n0 := 16384) (n1 := 1) i 0)
    have e3 := congrFun (V_ts m c) (ix2 (n0 := 16384) (n1 := 1) i 0)
    have e4 : shapeCast S16384x1 (aTs m c) shapeCasts_S16384_S16384x1 (ix2 i 0) = aTs m c (ix1 i) := by pointwise
    unfold uNew
    exact e1.trans (e2.trans (e3.trans e4))
  refine Eq.trans ?_ e
  generalize uNew m c = N
  pointwise
/-- then the old times. -/
theorem uNew_high (i : Fin 100000) (hi : ¬ i.val < 16384) :
    (shapeCast S100000 (uNew m c : FVec Ideal S100000x1 .f32) shapeCasts_S100000x1_S100000) (ix1 i) = aLast m c (ix1 i) := by
  have e : (uNew m c : FVec Ideal S100000x1 .f32) (ix2 i 0) = aLast m c (ix1 i) := by
    have e1 := newCol_high c (gT m c) (uArr m c) i hi
    unfold uNew
    exact e1.trans (u_apply m c h1 h2 i)
  refine Eq.trans ?_ e
  generalize uNew m c = N
  pointwise

end Finite

end Cert.Proof.Gru
-- ==== Proof.PreRead.lean ====
/- What the precondition gives: the ids are 0, 1, 2, …, and the first timestamp is finite. -/
module

public import proofs.«01_k».proof.Proof.Witness
public import Idealize.ShloMosaic.Lib.Pointwise
public import Idealize.ShloMosaic.Lib.StableHlo.Predicate
public import Idealize.ShloMosaic.Lib.Affine

@[expose] public section

set_option maxRecDepth 16384

noncomputable section

namespace Cert.Proof.Gru

open Idealize.ShloMosaic Idealize.ShloMosaic.TcCoe
open Cert.Pre_ids_in_order_time_finite

variable (ids : IVec S16384 32) (msg : FVec Ideal S16384x256 .f32) (ts : FVec Ideal S16384 .f32) (mem : FVec Ideal S100000x128 .f32)
  (last : FVec Ideal S100000 .f32) (wi : FVec Ideal S384x256 .f32) (wh : FVec Ideal S384x128 .f32) (bi bh : FVec Ideal S384 .f32)

/-- One element of the precondition: its id is its number, and the first timestamp's magnitude is below infinity. -/
theorem pre_apply (h : fn (F := Ideal) ids msg ts mem last wi wh bi bh = fun _ => 1#1) (i : Fin 16384) :
    ids (ix1 i) = BitVec.ofNat 32 i.val ∧ max (ts (ix1 0) : EReal) (-(ts (ix1 0) : EReal)) < ⊤ := by
  have e := congrFun h (ix1 i)
  revert e
  pointwise [fn]
  intro e
  obtain ⟨e1, e2⟩ := IntOp.andi_eq_one.1 e
  refine ⟨StableHlo.Predicate.cmpi_eq_iff.1 e1, ?_⟩
  have top : Ideal.ofBits .f32 2139095040#32 = ⊤ := by simp [Ideal.ofBits, Ideal.ieee]
  rw [top] at e2
  by_contra hn
  have e3 : BitVec.ofBool (decide (max (ts (ix1 0) : EReal) (-(ts (ix1 0) : EReal)) < ⊤)) = 1#1 := e2
  rw [decide_eq_false hn] at e3
  exact absurd e3 (by decide)

/-- The first timestamp is neither infinity. -/
theorem pre_ne_top (h : fn (F := Ideal) ids msg ts mem last wi wh bi bh = fun _ => 1#1) : (ts (ix1 0) : EReal) ≠ ⊤ := fun e =>
  absurd (pre_apply ids msg ts mem last wi wh bi bh h 0).2 (by rw [e]; simp)
theorem pre_ne_bot (h : fn (F := Ideal) ids msg ts mem last wi wh bi bh = fun _ => 1#1) : (ts (ix1 0) : EReal) ≠ ⊥ := fun e =>
  absurd (pre_apply ids msg ts mem last wi wh bi bh h 0).2 (by rw [e]; simp)

end Cert.Proof.Gru

end

end
-- ==== Proof.RefTerms.lean ====
/- The reference's two results as named stages of its arguments: the ids as a column, the rows they fetch, the gates' sums, the new rows. -/
module

public import proofs.«01_k».proof.Proof.Gen.ReferenceIdeal
public import proofs.«01_k».proof.Proof.Gen.ReferenceIdeal.Run

@[expose] public section

set_option maxRecDepth 16384

noncomputable section

namespace Cert.Proof.Gru.Ref

open Cert.ReferenceIdeal Cert.ReferenceIdeal.Gen
open Idealize.ShloMosaic Idealize.ShloMosaic.TcCoe Idealize.SL.Sem

variable {F : FTy → Type} [FloatOps F]

/-- The ids as a column, a negative one counted from the end. -/
def idCol (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 100000#32))) ids)

/-- Which ids name a row of the memory. -/
def inside (ids : IVec S16384 32) : IVec S16384 1 :=
  Host.reduce IntOp.andi
    (andi (cmpi .sge (idCol ids) (broadcastInDim S16384x1 ![] bcast_S_S16384x1 (constantI S_ 32 0#32)))
      (cmpi .sle (idCol ids) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- The memory rows that the ids fetch. -/
def fetched (ids : IVec S16384 32) (mem : FVec F S100000x128 .f32) : FVec F S16384x128 .f32 :=
  select (broadcastInDim S16384x128 ![0] bcast_S16384_S16384x128_0 (inside ids))
    (Host.gather gather_S100000x128_S16384x1_S16384x128_1_0_n_n_0_1_1128 mem (idCol ids))
    (broadcastInDim S16384x128 ![] bcast_S_S16384x128 (constant S_ .f32 0x7FC00000#32))

/-- The messages against the input weights, plus their bias. -/
def inSum (msg : FVec F S16384x256 .f32) (w : FVec F S384x256 .f32) (b : FVec F S384 .f32) : FVec F S16384x384 .f32 :=
  addf (Host.dotGeneral dot_S16384x256_S256x384_S16384x384_1_0_0_1_n_n none msg
      (transpose S256x384 [1, 0] w transposes_S384x256_S256x384_1_0))
    (broadcastInDim S16384x384 ![0, 1] bcast_S1x384_S16384x384_0_1 (broadcastInDim S1x384 ![1] bcast_S384_S1x384_1 b))

/-- The fetched rows against the hidden weights, plus their bias. -/
def hidSum (h : FVec F S16384x128 .f32) (w : FVec F S384x128 .f32) (b : FVec F S384 .f32) : FVec F S16384x384 .f32 :=
  addf (Host.dotGeneral dot_S16384x128_S128x384_S16384x384_1_0_0_1_n_n none h
      (transpose S128x384 [1, 0] w transposes_S384x128_S128x384_1_0))
    (broadcastInDim S16384x384 ![0, 1] bcast_S1x384_S16384x384_0_1 (broadcastInDim S1x384 ![1] bcast_S384_S1x384_1 b))

/-- The number one everywhere. -/
def ones : FVec F S16384x128 .f32 := broadcastInDim S16384x128 ![] bcast_S_S16384x128 (constant S_ .f32 0x3F800000#32)

/-- The logistic function of the sum of two gate columns, spelt out. -/
def sigm (a b : FVec F S16384x128 .f32) : FVec F S16384x128 .f32 :=
  Host.divf ones (addf ones (Host.exp (Host.negf (addf a b))))

/-- The blend of candidate and old row, from the gates' sums. -/
def blend (gi gh : FVec F S16384x384 .f32) (h : FVec F S16384x128 .f32) : FVec F S16384x128 .f32 :=
  addf
    (mulf
      (subf ones (sigm (extractStridedSlice S16384x128 ![0, 128] gi slices_S16384x384_S16384x128_0_128)
        (extractStridedSlice S16384x128 ![0, 128] gh slices_S16384x384_S16384x128_0_128)))
      (Host.tanh (addf (extractStridedSlice S16384x128 ![0, 256] gi slices_S16384x384_S16384x128_0_256)
        (mulf (sigm (extractStridedSlice S16384x128 ![0, 0] gi slices_S16384x384_S16384x128_0_0)
            (extractStridedSlice S16384x128 ![0, 0] gh slices_S16384x384_S16384x128_0_0))
          (extractStridedSlice S16384x128 ![0, 256] gh slices_S16384x384_S16384x128_0_256)))))
    (mulf (sigm (extractStridedSlice S16384x128 ![0, 128] gi slices_S16384x384_S16384x128_0_128)
      (extractStridedSlice S16384x128 ![0, 128] gh slices_S16384x384_S16384x128_0_128)) h)

/-- The new rows. -/
def fresh (ids : IVec S16384 32) (msg : FVec F S16384x256 .f32) (mem : FVec F S100000x128 .f32) (wi : FVec F S384x256 .f32)
    (wh : FVec F S384x128 .f32) (bi bh : FVec F S384 .f32) : FVec F S16384x128 .f32 :=
  blend (inSum msg wi bi) (hidSum (fetched ids mem) wh bh) (fetched ids mem)

/-- The updated memory. -/
def memOut (ids : IVec S16384 32) (msg : FVec F S16384x256 .f32) (mem : FVec F S100000x128 .f32) (wi : FVec F S384x256 .f32)
    (wh : FVec F S384x128 .f32) (bi bh : FVec F S384 .f32) : FVec F S100000x128 .f32 :=
  Host.scatter scatter_S100000x128_S16384x1_S16384x128_1_0_0_1 (fun _ b => b) mem (idCol ids) (fresh ids msg mem wi wh bi bh)

/-- The updated times. -/
def timeOut (ids : IVec S16384 32) (ts : FVec F S16384 .f32) (last : FVec F S100000 .f32) : FVec F S100000 .f32 :=
  Host.scatter scatter_S100000_S16384x1_S16384_n_0_0_1 (fun _ b => b) last (idCol ids) ts

variable (m : (ℓ : Loc nD τ sig) → Buf (Elt F) ℓ) (c : Dev nD)

/-- The run's first result is the updated memory. -/
theorem memOut_eq : Value.res_main_v45 m c
    = memOut (m ((c.tc : Thread nD τ).loc main_arg0)) (m ((c.tc : Thread nD τ).loc main_arg1)) (m ((c.tc : Thread nD τ).loc main_arg3))
        (m ((c.tc : Thread nD τ).loc main_arg5)) (m ((c.tc : Thread nD τ).loc main_arg6)) (m ((c.tc : Thread nD τ).loc main_arg7))
        (m ((c.tc : Thread nD τ).loc main_arg8)) := rfl

end Cert.Proof.Gru.Ref

end

end
-- ==== Proof.RefRows.lean ====
/- What the reference computes when the ids are 0, 1, 2, …: row `i` fetches row `i`, becomes the cell's row, and goes back to row `i`. -/
module

public import proofs.«01_k».proof.Proof.RefTerms
public import proofs.«01_k».proof.Proof.Cell
public import Idealize.ShloMosaic.Lib.Routing.OpsSet
public import Idealize.ShloMosaic.Lib.StableHlo.Predicate

@[expose] public section

set_option maxRecDepth 16384

noncomputable section

namespace Cert.Proof.Gru.Ref

open Cert.ReferenceIdeal Cert.ReferenceIdeal.Gen
open Idealize.ShloMosaic Idealize.ShloMosaic.TcCoe Idealize.SL.Sem

/-- A number below 16384 is not negative as a word. -/
theorem not_neg (i : Fin 16384) : IntOp.cmpi .slt (BitVec.ofNat 32 i.val) 0#32 = 0#1 := by
  have hi : (BitVec.ofNat 32 i.val).toNat = i.val := by rw [BitVec.toNat_ofNat]; exact Nat.mod_eq_of_lt (by omega)
  rw [WordCmp.cmpi_slt_zero, hi, decide_eq_false (by omega)]
  rfl

/-- It lies between zero and the last row of the memory. -/
theorem in_rows (i : Fin 16384) : IntOp.andi (IntOp.cmpi .sge (BitVec.ofNat 32 i.val) 0#32) (IntOp.cmpi .sle (BitVec.ofNat 32 i.val) 99999#32) = 1#1 := by
  have hi : (BitVec.ofNat 32 i.val).toNat = i.val := by rw [BitVec.toNat_ofNat]; exact Nat.mod_eq_of_lt (by omega)
  rw [(StableHlo.Predicate.sge_iff_toNat (by omega) (by decide)).mpr (Nat.zero_le _),
    (StableHlo.Predicate.sle_iff_toNat (by omega) (by decide)).mpr (by rw [hi]; show i.val ≤ 99999; omega)]
  rfl

/-- How the ids fetch rows of the memory. -/
abbrev fetch : GatherDims S100000x128 S16384x1 S16384x128 := gather_S100000x128_S16384x1_S16384x128_1_0_n_n_0_1_1128

/-- How the new rows go into the memory. -/
abbrev rows : ScatterDims S100000x128 S16384x1 S16384x128 := scatter_S100000x128_S16384x1_S16384x128_1_0_0_1

/-- How the timestamps go into the last updates. -/
abbrev times : ScatterDims S100000 S16384x1 S16384 := scatter_S100000_S16384x1_S16384_n_0_0_1

variable (ids : IVec S16384 32) (hids : ∀ i : Fin 16384, ids (ix1 i) = BitVec.ofNat 32 i.val)
include hids

/-- The column's entry `i` is `i`. -/
theorem idCol_apply (i : Fin 16384) : idCol ids (ix2 i 0) = BitVec.ofNat 32 i.val := by
  pointwise [idCol, hids, not_neg]

/-- Every id names a row. -/
theorem inside_apply (i : Fin 16384) : inside ids (ix1 i) = 1#1 := by
  pointwise [inside]
  have e : ∀ x : Fin 1, IntOp.andi (IntOp.cmpi CmpIPredicate.sge (idCol ids (ix2 i x)) 0#32)
      (IntOp.cmpi CmpIPredicate.sle (idCol ids (ix2 i x)) 99999#32) = 1#1 := fun x => by
    rw [Subsingleton.elim x 0, idCol_apply ids hids, in_rows]
  simp only [e]
  rfl

/-- Row `i` fetches row `i`. -/
theorem gather_apply {α : Type} (mem : S100000x128.Idx → α) (i : Fin 16384) (j : Fin 128) :
    Host.gather fetch mem (idCol ids) (ix2 i j) = mem (ix2 ⟨i, by omega⟩ j) := by
  unfold Host.gather
  congr 1
  funext a
  refine Fin.ext ?_
  match a with
  | ⟨0, _⟩ =>
    show fetch.start (ix2 i j) (idCol ids) (0 : Fin 2) + fetch.batchCoord (ix2 i j) (0 : Fin 2) + fetch.offCoord (ix2 i j) (0 : Fin 2) = i.val
    rw [GatherDims.batchCoord_eq_zero _ _ _ List.not_mem_nil, GatherDims.offCoord_eq_zero _ _ _ (by decide)]
    unfold GatherDims.start
    rw [dif_pos (show (0 : Fin 2) ∈ fetch.startIndexMap from List.mem_singleton.mpr rfl)]
    have e : fetch.siIdx (ix2 i j) ⟨_, List.idxOf_lt_length_iff.2
        (show (0 : Fin 2) ∈ fetch.startIndexMap from List.mem_singleton.mpr rfl)⟩
          = (ix2 i 0 : S16384x1.Idx) := by
      funext b
      match b with
      | ⟨0, _⟩ => rfl
      | ⟨1, _⟩ => rfl
    rw [e, idCol_apply ids hids, StableHlo.Predicate.toInt_ofNat_small _ (by omega)]
    show min i.val (100000 - 1) + 0 + 0 = i.val
    omega
  | ⟨1, _⟩ =>
    show fetch.start (ix2 i j) (idCol ids) (1 : Fin 2) + fetch.batchCoord (ix2 i j) (1 : Fin 2) + fetch.offCoord (ix2 i j) (1 : Fin 2) = j.val
    rw [GatherDims.batchCoord_eq_zero _ _ _ List.not_mem_nil]
    unfold GatherDims.start
    rw [dif_neg (by decide)]
    show 0 + 0 + j.val = j.val
    omega

/-- So does the masked fetch: no row is masked. -/
theorem fetched_apply (mem : FVec Ideal S100000x128 .f32) (i : Fin 16384) (j : Fin 128) :
    fetched ids mem (ix2 i j) = mem (ix2 ⟨i, by omega⟩ j) := by
  pointwise [fetched, inside_apply ids hids, gather_apply ids hids]

/-- The new row `i` is the cell of message `i` and memory row `i`. -/
theorem fresh_apply (msg : FVec Ideal S16384x256 .f32) (mem : FVec Ideal S100000x128 .f32) (wi : FVec Ideal S384x256 .f32)
    (wh : FVec Ideal S384x128 .f32) (bi bh : FVec Ideal S384 .f32) (i : Fin 16384) (j : Fin 128) :
    fresh ids msg mem wi wh bi bh (ix2 i j)
      = cell (fun k => msg (ix2 i k)) (fun k => mem (ix2 ⟨i, by omega⟩ k)) (fun j k => wi (ix2 j k)) (fun j k => wh (ix2 j k))
          (fun j => bi (ix1 j)) (fun j => bh (ix1 j)) j := by
  pointwise [fresh, blend, inSum, hidSum, sigm, ones, cell, gate, Ideal.logistic, fetched_apply ids hids]

/-- Update `(i, j)` of the memory lands on row `i`, column `j`. -/
theorem lands (i : Fin 16384) (j : Fin 128) :
    rows.resultIdx? (ix2 i j) (idCol ids) = some (ix2 ⟨i, by omega⟩ j) := by
  have e0 : rows.start (ix2 i j) (idCol ids) (0 : Fin 2) = i.val := by
    unfold ScatterDims.start
    rw [dif_pos (show (0 : Fin 2) ∈ rows.scatterDimsToOperandDims from List.mem_singleton.mpr rfl)]
    have e : rows.siIdx (ix2 i j) ⟨_, List.idxOf_lt_length_iff.2
        (show (0 : Fin 2) ∈ rows.scatterDimsToOperandDims from List.mem_singleton.mpr rfl)⟩
          = (ix2 i 0 : S16384x1.Idx) := by
      funext b
      match b with
      | ⟨0, _⟩ => rfl
      | ⟨1, _⟩ => rfl
    rw [e, idCol_apply ids hids, StableHlo.Predicate.toInt_ofNat_small _ (by omega)]
  have e1 : rows.start (ix2 i j) (idCol ids) (1 : Fin 2) = 0 := by
    unfold ScatterDims.start
    rw [dif_neg (by decide)]
  have w0 : rows.window (ix2 i j) (0 : Fin 2) = 0 := rfl
  have w1 : rows.window (ix2 i j) (1 : Fin 2) = j.val := rfl
  unfold ScatterDims.resultIdx?
  rw [dif_pos (fun a => by
    match a with
    | ⟨0, _⟩ => exact (show 0 ≤ rows.start (ix2 i j) (idCol ids) (0 : Fin 2) + rows.window (ix2 i j) (0 : Fin 2)
        ∧ rows.start (ix2 i j) (idCol ids) (0 : Fin 2) + rows.window (ix2 i j) (0 : Fin 2) < ((100000 : ℕ) : ℤ) from by rw [e0, w0]; omega)
    | ⟨1, _⟩ => exact (show 0 ≤ rows.start (ix2 i j) (idCol ids) (1 : Fin 2) + rows.window (ix2 i j) (1 : Fin 2)
        ∧ rows.start (ix2 i j) (idCol ids) (1 : Fin 2) + rows.window (ix2 i j) (1 : Fin 2) < ((128 : ℕ) : ℤ) from by rw [e1, w1]; omega))]
  congr 1
  funext a
  refine Fin.ext ?_
  match a with
  | ⟨0, _⟩ => exact (show (rows.start (ix2 i j) (idCol ids) (0 : Fin 2) + rows.window (ix2 i j) (0 : Fin 2)).toNat = i.val from by rw [e0, w0]; omega)
  | ⟨1, _⟩ => exact (show (rows.start (ix2 i j) (idCol ids) (1 : Fin 2) + rows.window (ix2 i j) (1 : Fin 2)).toNat = j.val from by rw [e1, w1]; omega)

/-- The updated memory has the new row at each of the first 16384 rows. -/
theorem scatter_low {α : Type} (mem : S100000x128.Idx → α) (upd : S16384x128.Idx → α) (i : Fin 16384) (j : Fin 128) :
    Host.scatter rows (fun _ b => b) mem (idCol ids) upd (ix2 ⟨i, by omega⟩ j) = upd (ix2 i j) := by
  refine Routing.scatter_set_hit _ mem (idCol ids) upd _ _ (fun k hk => ?_) (ix2 i j) (lands ids hids i j)
  obtain ⟨i', j', rfl⟩ : ∃ (i' : Fin 16384) (j' : Fin 128), k = ix2 i' j' := ⟨k 0, k 1, eq_ix2 k⟩
  rw [lands ids hids] at hk
  obtain ⟨h0, h1⟩ := (ix2_inj ..).1 (Option.some.inj hk)
  rw [show i' = i from Fin.ext (Fin.mk.inj h0), h1]

/-- Every other row stays. -/
theorem scatter_high {α : Type} (mem : S100000x128.Idx → α) (upd : S16384x128.Idx → α) (i : Fin 100000) (hi : ¬ i.val < 16384) (j : Fin 128) :
    Host.scatter rows (fun _ b => b) mem (idCol ids) upd (ix2 i j) = mem (ix2 i j) := by
  refine Routing.scatter_set_miss _ mem (idCol ids) upd _ (fun k hk => ?_)
  obtain ⟨i', j', rfl⟩ : ∃ (i' : Fin 16384) (j' : Fin 128), k = ix2 i' j' := ⟨k 0, k 1, eq_ix2 k⟩
  rw [lands ids hids] at hk
  obtain ⟨h0, -⟩ := (ix2_inj ..).1 (Option.some.inj hk)
  exact hi (h0 ▸ i'.isLt)

/-- Timestamp `i` lands on entry `i`. -/
theorem lands_time (i : Fin 16384) : times.resultIdx? (ix1 i) (idCol ids) = some (ix1 ⟨i, by omega⟩) := by
  have e0 : times.start (ix1 i) (idCol ids) (0 : Fin 1) = i.val := by
    unfold ScatterDims.start
    rw [dif_pos (show (0 : Fin 1) ∈ times.scatterDimsToOperandDims from List.mem_singleton.mpr rfl)]
    have e : times.siIdx (ix1 i) ⟨_, List.idxOf_lt_length_iff.2
        (show (0 : Fin 1) ∈ times.scatterDimsToOperandDims from List.mem_singleton.mpr rfl)⟩ = (ix2 i 0 : S16384x1.Idx) := by
      funext b
      match b with
      | ⟨0, _⟩ => rfl
      | ⟨1, _⟩ => rfl
    rw [e, idCol_apply ids hids, StableHlo.Predicate.toInt_ofNat_small _ (by omega)]
  have w0 : times.window (ix1 i) (0 : Fin 1) = 0 := rfl
  unfold ScatterDims.resultIdx?
  rw [dif_pos (fun a => by
    match a with
    | ⟨0, _⟩ => exact (show 0 ≤ times.start (ix1 i) (idCol ids) (0 : Fin 1) + times.window (ix1 i) (0 : Fin 1)
        ∧ times.start (ix1 i) (idCol ids) (0 : Fin 1) + times.window (ix1 i) (0 : Fin 1) < ((100000 : ℕ) : ℤ) from by rw [e0, w0]; omega))]
  congr 1
  funext a
  refine Fin.ext ?_
  match a with
  | ⟨0, _⟩ => exact (show (times.start (ix1 i) (idCol ids) (0 : Fin 1) + times.window (ix1 i) (0 : Fin 1)).toNat = i.val from by rw [e0, w0]; omega)

/-- The updated times have timestamp `i` at entry `i`. -/
theorem time_low {α : Type} (last : S100000.Idx → α) (ts : S16384.Idx → α) (i : Fin 16384) :
    Host.scatter times (fun _ b => b) last (idCol ids) ts (ix1 ⟨i, by omega⟩) = ts (ix1 i) := by
  refine Routing.scatter_set_hit _ last (idCol ids) ts _ _ (fun k hk => ?_) (ix1 i) (lands_time ids hids i)
  obtain ⟨i', rfl⟩ : ∃ i' : Fin 16384, k = ix1 i' := ⟨k 0, eq_ix1 k⟩
  rw [lands_time ids hids] at hk
  rw [show i' = i from Fin.ext (Fin.mk.inj ((ix1_inj ..).1 (Option.some.inj hk)))]

/-- Every other entry stays. -/
theorem time_high {α : Type} (last : S100000.Idx → α) (ts : S16384.Idx → α) (i : Fin 100000) (hi : ¬ i.val < 16384) :
    Host.scatter times (fun _ b => b) last (idCol ids) ts (ix1 i) = last (ix1 i) := by
  refine Routing.scatter_set_miss _ last (idCol ids) ts _ (fun k hk => ?_)
  obtain ⟨i', rfl⟩ : ∃ i' : Fin 16384, k = ix1 i' := ⟨k 0, eq_ix1 k⟩
  rw [lands_time ids hids] at hk
  exact hi ((ix1_inj ..).1 (Option.some.inj hk) ▸ i'.isLt)

end Cert.Proof.Gru.Ref

end

end
-- ==== Proof.Equation.lean ====
/- The equation: where the precondition holds, the kernel's two results are the reference's. -/
module

public import proofs.«01_k».proof.Defs
public import proofs.«01_k».proof.Proof.Ends
public import proofs.«01_k».proof.Proof.KernelRows
public import proofs.«01_k».proof.Proof.PreRead
public import proofs.«01_k».proof.Proof.RefRows

@[expose] public section

set_option maxRecDepth 16384

noncomputable section

namespace Cert.Proof.Gru

open Idealize.ShloMosaic Idealize.ShloMosaic.TcCoe Idealize.SL.Sem
open Cert.KernelIdeal (nD τ sig S16384 S100000x128 S100000 S100000x1)

variable (m : (ℓ : Loc nD τ sig) → Buf (Elt Ideal) ℓ) (c : Dev nD)

/-- The ids. -/
abbrev aIds : IVec S16384 32 := m ((c.tc : Thread nD τ).loc Cert.KernelIdeal.main_arg0)

section Equal

variable (hids : ∀ i : Fin 16384, aIds m c (ix1 i) = BitVec.ofNat 32 i.val)
  (h1 : (aTs m c (ix1 0) : EReal) ≠ ⊤) (h2 : (aTs m c (ix1 0) : EReal) ≠ ⊥)
include hids h1 h2

/-- The memory: both leave the cell's rows first and the old rows after them. -/
theorem mem_equal : (mNew m c : FVec Ideal S100000x128 .f32)
    = Ref.memOut (aIds m c) (aMsg m c) (aMem m c) (aWi m c) (aWh m c) (aBi m c) (aBh m c) := by
  funext k
  obtain ⟨i, j, rfl⟩ : ∃ (i : Fin 100000) (j : Fin 128), k = ix2 i j := ⟨k 0, k 1, eq_ix2 k⟩
  by_cases hi : i.val < 16384
  · have ek := mNew_low m c h1 h2 ⟨i.val, hi⟩ j
    have er := (Ref.scatter_low (aIds m c) hids (aMem m c) (Ref.fresh (aIds m c) (aMsg m c) (aMem m c) (aWi m c) (aWh m c) (aBi m c) (aBh m c)) ⟨i.val, hi⟩ j).trans
      (Ref.fresh_apply (aIds m c) hids (aMsg m c) (aMem m c) (aWi m c) (aWh m c) (aBi m c) (aBh m c) ⟨i.val, hi⟩ j)
    exact ek.trans er.symm
  · exact (mNew_high m c h1 h2 i hi j).trans (Ref.scatter_high (aIds m c) hids (aMem m c) _ i hi j).symm

/-- The last-update times: both leave the timestamps first and the old times after them. -/
theorem time_equal : shapeCast S100000 (uNew m c : FVec Ideal S100000x1 .f32) Cert.KernelIdeal.Gen.shapeCasts_S100000x1_S100000
    = Ref.timeOut (aIds m c) (aTs m c) (aLast m c) := by
  funext k
  obtain ⟨i, rfl⟩ : ∃ i : Fin 100000, k = ix1 i := ⟨k 0, eq_ix1 k⟩
  by_cases hi : i.val < 16384
  · exact (uNew_low m c ⟨i.val, hi⟩).trans (Ref.time_low (aIds m c) hids (aLast m c) (aTs m c) ⟨i.val, hi⟩).symm
  · exact (uNew_high m c h1 h2 i hi).trans (Ref.time_high (aIds m c) hids (aLast m c) (aTs m c) i hi).symm

end Equal

/-- Over the extended reals the kernel and the reference leave the same memory and the same last-update times. -/
theorem algebraic : Cert.algebraic_KernelIdeal_ReferenceIdeal_pre_ids_in_order_time_finite := by
  intro m g m' g' hpre harg
  have hids (c) : ∀ i : Fin 16384, aIds m c (ix1 i) = BitVec.ofNat 32 i.val := fun i => (pre_apply _ _ _ _ _ _ _ _ _ (hpre c) i).1
  have h1 (c) : (aTs m c (ix1 0) : EReal) ≠ ⊤ := pre_ne_top _ _ _ _ _ _ _ _ _ (hpre c)
  have h2 (c) : (aTs m c (ix1 0) : EReal) ≠ ⊥ := pre_ne_bot _ _ _ _ _ _ _ _ _ (hpre c)
  refine ⟨fun c => Ref.memOut (aIds m c) (aMsg m c) (aMem m c) (aWi m c) (aWh m c) (aBi m c) (aBh m c),
    fun c => Ref.timeOut (aIds m c) (aTs m c) (aLast m c), ?_, ?_⟩
  · exact (θ_run Cert.KernelIdeal.defs _ _).mono (fun r h c =>
      ⟨(h.1 c).1.1.trans (mem_equal m c (hids c) (h1 c) (h2 c)), (h.1 c).1.2.trans (time_equal m c (hids c) (h1 c) (h2 c)), (h.1 c).2⟩)
      (run_main (F := Ideal) m g)
  · refine (θ_run Cert.ReferenceIdeal.defs _ _).mono (fun r h c => ?_) (Cert.ReferenceIdeal.Value.run (F := Ideal) m' g')
    obtain ⟨e0, e1, e2, e3, e4, e5, e6, e7, e8⟩ := harg c
    refine ⟨(h c).1.trans ((Ref.memOut_eq m' c).trans ?_), (h c).2.1.trans ?_, (h c).2.2⟩
    · rw [e0, e1, e3, e5, e6, e7, e8]
    · rw [e0, e2, e4]; rfl

end Cert.Proof.Gru

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Witness
public import proofs.«01_k».proof.Proof.Equation

@[expose] public section

noncomputable section

namespace Cert.Proof

/-- The kernel over words, the kernel over the extended reals and the reference leave their arguments and counters as they were,
    with the precondition or without; idealizing the kernel rewrote nothing; and under the precondition kernel and reference
    leave the same two results. -/
theorem claim : Cert.Claim :=
  ⟨Cert.Kernel.Gen.facts, Cert.KernelIdeal.Gen.facts, Cert.ReferenceIdeal.Gen.facts, Gru.preFacts,
    Gru.frame_kernel, Gru.frame_kernelIdeal, fun m g _ => Gru.frame_kernelIdeal m g trivial,
    Gru.frame_referenceIdeal, fun m g _ => Gru.frame_referenceIdeal m g trivial, trivial, Gru.algebraic⟩

end Cert.Proof

end

end
